-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)) (v1 : (c : Dev Cert.Kernel2Ideal.nD) → Buf (Elt Ideal) ((c.tc : Thread Cert.Kernel2Ideal.nD Cert.Kernel2Ideal.τ).loc Cert.Kernel2Ideal.main_v4)) (v2 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_v4) = v1 c
          ∧ r.2.mem ((c.tc : Thread Cert.Kernel2Ideal.nD Cert.Kernel2Ideal.τ).loc Cert.Kernel2Ideal.main_v6) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v25) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3)) (v1 : (c : Dev Cert.Kernel8Ideal.nD) → Buf (Elt Ideal) ((c.tc : Thread Cert.Kernel8Ideal.nD Cert.Kernel8Ideal.τ).loc Cert.Kernel8Ideal.main_v14)) (v2 : (c : Dev Cert.Kernel8Ideal.nD) → Buf (Elt Ideal) ((c.tc : Thread Cert.Kernel8Ideal.nD Cert.Kernel8Ideal.τ).loc Cert.Kernel8Ideal.main_v17)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_v14) = v1 c
          ∧ r.2.mem ((c.tc : Thread Cert.Kernel8Ideal.nD Cert.Kernel8Ideal.τ).loc Cert.Kernel8Ideal.main_v17) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_v27) = v1 c
          ∧ r.2.mem ((c.tc : Thread Cert.Reference8Ideal.nD Cert.Reference8Ideal.τ).loc Cert.Reference8Ideal.main_v29) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v96)) (v1 : (c : Dev Cert.Kernel9Ideal.nD) → Buf (Elt Ideal) ((c.tc : Thread Cert.Kernel9Ideal.nD Cert.Kernel9Ideal.τ).loc Cert.Kernel9Ideal.main_v97)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v96) = v0 c
          ∧ r.2.mem ((c.tc : Thread Cert.Kernel9Ideal.nD Cert.Kernel9Ideal.τ).loc Cert.Kernel9Ideal.main_v97) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v172) = v0 c
          ∧ r.2.mem ((c.tc : Thread Cert.Reference9Ideal.nD Cert.Reference9Ideal.τ).loc Cert.Reference9Ideal.main_v173) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v19)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v19) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S8192x3584 : Shape := ⟨2, ![8192, 3584]⟩
abbrev S8x128x128 : Shape := ⟨3, ![8, 128, 128]⟩
abbrev S8x128 : Shape := ⟨2, ![8, 128]⟩
abbrev S16 : Shape := ⟨1, ![16]⟩
abbrev S8192x1280 : Shape := ⟨2, ![8192, 1280]⟩
abbrev S_ : Shape := ⟨0, ![]⟩

class Facts : Prop where
  slices_S8192x3584_S8192x1280_0_2048 : S8192x3584.Slices ![0, 2048] S8192x1280
  bcast_S_S8192x1280 : S_.BroadcastsInDim S8192x1280 (![] : Fin 0 → Fin S8192x1280.rank)
  reducesTo_S8192x1280_S_d0_1 : S8192x1280.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S8192x3584 .f32) (main_arg1 : FVec F S8x128x128 .f32) (main_arg2 : FVec F S8x128 .f32) (main_arg3 : FVec F S16 .f32) : IVec S_ 1 :=
  let main_v0 : FVec F S8192x1280 .f32 := (extractStridedSlice S8192x1280 ![0, 2048] · slices_S8192x3584_S8192x1280_0_2048) main_arg0
  let main_v1 : FVec F S8192x1280 .f32 := Host.absf main_v0
  let main_cst : FVec F S_ .f32 := constant S_ .f32 0x7F800000#32
  let main_v2 : FVec F S8192x1280 .f32 := broadcastInDim S8192x1280 ![] bcast_S_S8192x1280 main_cst
  let main_v3 : IVec S8192x1280 1 := cmpf .olt main_v1 main_v2
  let main_c : IVec S_ 1 := constantI S_ 1 1#1
  let main_v4 : IVec S_ 1 := (fun x v => Host.reduce IntOp.andi x v reducesTo_S8192x1280_S_d0_1 h_S_) main_v3 main_c
  let main_v5 : FVec F S16 .f32 := Host.absf main_arg3
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v4 main_v8
  main_v9
-- ==== Kernel.lean ====
abbrev S8192x3584 : Shape := ⟨2, ![8192, 3584]⟩
abbrev S8x128x128 : Shape := ⟨3, ![8, 128, 128]⟩
abbrev S8x128 : Shape := ⟨2, ![8, 128]⟩
abbrev S16 : Shape := ⟨1, ![16]⟩
abbrev S8x128x1 : Shape := ⟨3, ![8, 128, 1]⟩
abbrev S8192x2048 : Shape := ⟨2, ![8192, 2048]⟩
abbrev S128x1024 : Shape := ⟨2, ![128, 1024]⟩
abbrev S128x512 : Shape := ⟨2, ![128, 512]⟩
abbrev S128x2048 : Shape := ⟨2, ![128, 2048]⟩
abbrev S128x128 : Shape := ⟨2, ![128, 128]⟩
abbrev S1x128x128 : Shape := ⟨3, ![1, 128, 128]⟩
abbrev S512x256 : Shape := ⟨2, ![512, 256]⟩
abbrev S128x64 : Shape := ⟨2, ![128, 64]⟩
abbrev S256x64 : Shape := ⟨2, ![256, 64]⟩
abbrev S64x256 : Shape := ⟨2, ![64, 256]⟩
abbrev S512x64 : Shape := ⟨2, ![512, 64]⟩
abbrev S512x1 : Shape := ⟨2, ![512, 1]⟩
abbrev S1 : Shape := ⟨1, ![1]⟩
abbrev S512 : Shape := ⟨1, ![512]⟩

abbrev nBuf : Space → Nat
  | .hbm => 7
  | .vmem => 14
  | .smem => 1
  | _ => 0

abbrev bufTy : (tb : Table) → Fin (tcTables nBuf tb) → BufTy
  | .hbm, ⟨0, _⟩ => ⟨S8192x3584, .f32⟩
  | .hbm, ⟨1, _⟩ => ⟨S8x128x128, .f32⟩
  | .hbm, ⟨2, _⟩ => ⟨S8x128, .f32⟩
  | .hbm, ⟨3, _⟩ => ⟨S16, .f32⟩
  | .hbm, ⟨4, _⟩ => ⟨S8x128x1, .f32⟩
  | .hbm, ⟨5, _⟩ => ⟨S8x128x128, .f32⟩
  | .hbm, ⟨6, _⟩ => ⟨S8192x2048, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S8x128x128, .f32⟩
  | .local _ .vmem, ⟨11, _⟩ => ⟨S8x128x128, .f32⟩
  | .local _ .vmem, ⟨12, _⟩ => ⟨S128x2048, .f32⟩
  | .local _ .vmem, ⟨13, _⟩ => ⟨S128x2048, .f32⟩
  | .local _ .smem, ⟨0, _⟩ => ⟨S16, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let c0_i32_0 : BitVec 32 := 0#32
  ![v1.toNat, c6_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8192x3584 : Shape := ⟨2, ![8192, 3584]⟩
abbrev S8x128x128 : Shape := ⟨3, ![8, 128, 128]⟩
abbrev S8x128 : Shape := ⟨2, ![8, 128]⟩
abbrev S16 : Shape := ⟨1, ![16]⟩
abbrev S1x8192x3584 : Shape := ⟨3, ![1, 8192, 3584]⟩
abbrev S1x8192x1024 : Shape := ⟨3, ![1, 8192, 1024]⟩
abbrev S1x8192x256 : Shape := ⟨3, ![1, 8192, 256]⟩
abbrev S_ : Shape := ⟨0, ![]⟩
abbrev S1x8192x8x128 : Shape := ⟨4, ![1, 8192, 8, 128]⟩
abbrev S1x8192x4x64 : Shape := ⟨4, ![1, 8192, 4, 64]⟩
abbrev S1x64x128x8x128 : Shape := ⟨5, ![1, 64, 128, 8, 128]⟩
abbrev S128x128 : Shape := ⟨2, ![128, 128]⟩
abbrev S8x1x64x128x128 : Shape := ⟨5, ![8, 1, 64, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S1x64x128x4x4x64 : Shape := ⟨6, ![1, 64, 128, 4, 4, 64]⟩
abbrev S1x64x128x4x64 : Shape := ⟨5, ![1, 64, 128, 4, 64]⟩
abbrev S1x63x128x4x64 : Shape := ⟨5, ![1, 63, 128, 4, 64]⟩
abbrev S1x64x256x4x64 : Shape := ⟨5, ![1, 64, 256, 4, 64]⟩
abbrev S64 : Shape := ⟨1, ![64]⟩
abbrev S64x1 : Shape := ⟨2, ![64, 1]⟩
abbrev S128 : Shape := ⟨1, ![128]⟩
abbrev S1x128 : Shape := ⟨2, ![1, 128]⟩
abbrev S64x128 : Shape := ⟨2, ![64, 128]⟩
abbrev S256 : Shape := ⟨1, ![256]⟩
abbrev S1x256 : Shape := ⟨2, ![1, 256]⟩
abbrev S64x256 : Shape := ⟨2, ![64, 256]⟩
abbrev S64x128x1 : Shape := ⟨3, ![64, 128, 1]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S1x64x4x256x128x4 : Shape := ⟨6, ![1, 64, 4, 256, 128, 4]⟩
abbrev S1x64x4x4x128x256 : Shape := ⟨6, ![1, 64, 4, 4, 128, 256]⟩
abbrev S4x4x1x1 : Shape := ⟨4, ![4, 4, 1, 1]⟩
abbrev S1x64x4x4x128 : Shape := ⟨5, ![1, 64, 4, 4, 128]⟩
abbrev S1x64x4x4x128x1 : Shape := ⟨6, ![1, 64, 4, 4, 128, 1]⟩
abbrev S1x1x4x4x1x1 : Shape := ⟨6, ![1, 1, 4, 4, 1, 1]⟩
abbrev S1x64x4x64x4x128 : Shape := ⟨6, ![1, 64, 4, 64, 4, 128]⟩
abbrev S1x8192x2048 : Shape := ⟨3, ![1, 8192, 2048]⟩
abbrev S8192x2048 : Shape := ⟨2, ![8192, 2048]⟩

abbrev nBuf : Space → Nat
  | .hbm => 138
  | .vmem => 0
  | .smem => 0
  | _ => 0

abbrev hbmTy0_0 (i : Nat) : BufTy := match i % 128 with
  | 0 => ⟨S8192x3584, .f32⟩
  | 1 => ⟨S8x128x128, .f32⟩
  | 2 => ⟨S8x128, .f32⟩
  | 3 => ⟨S16, .f32⟩
  | 4 => ⟨S1x8192x3584, .f32⟩
  | 5 => ⟨S1x8192x1024, .f32⟩
  | 6 => ⟨S1x8192x1024, .f32⟩
  | 7 => ⟨S1x8192x1024, .f32⟩
  | 8 => ⟨S1x8192x256, .f32⟩
  | 9 => ⟨S1x8192x256, .f32⟩
  | 10 => ⟨S_, .f32⟩
  | 11 => ⟨S1x8192x1024, .f32⟩
  | 12 => ⟨S1x8192x1024, .f32⟩
  | 13 => ⟨S1x8192x1024, .f32⟩
  | 14 => ⟨S_, .f32⟩
  | 15 => ⟨S1x8192x1024, .f32⟩
  | 16 => ⟨S1x8192x1024, .f32⟩
  | 17 => ⟨S1x8192x1024, .f32⟩
  | 18 => ⟨S1x8192x1024, .f32⟩
  | 19 => ⟨S1x8192x8x128, .f32⟩
  | 20 => ⟨S_, .f32⟩
  | 21 => ⟨S1x8192x1024, .f32⟩
  | 22 => ⟨S1x8192x1024, .f32⟩
  | 23 => ⟨S1x8192x1024, .f32⟩
  | 24 => ⟨S_, .f32⟩
  | 25 => ⟨S1x8192x1024, .f32⟩
  | 26 => ⟨S1x8192x1024, .f32⟩
  | 27 => ⟨S1x8192x1024, .f32⟩
  | 28 => ⟨S1x8192x1024, .f32⟩
  | 29 => ⟨S1x8192x8x128, .f32⟩
  | 30 => ⟨S1x8192x4x64, .f32⟩
  | 31 => ⟨S1x8192x4x64, .f32⟩
  | 32 => ⟨S1x64x128x8x128, .f32⟩
  | 33 => ⟨S128x128, .i32⟩
  | 34 => ⟨S_, .i32⟩
  | 35 => ⟨S128x128, .i32⟩
  | 36 => ⟨S128x128, .i32⟩
  | 37 => ⟨S128x128, .i32⟩
  | 38 => ⟨S128x128, .i1⟩
  | 39 => ⟨S8x128x128, .i1⟩
  | 40 => ⟨S_, .f32⟩
  | 41 => ⟨S8x128x128, .f32⟩
  | 42 => ⟨S8x128x128, .f32⟩
  | 43 => ⟨S8x1x64x128x128, .f32⟩
  | 44 => ⟨S1x64x128x8x128, .f32⟩
  | 45 => ⟨S128x8, .f32⟩
  | 46 => ⟨S128x8x1, .f32⟩
  | 47 => ⟨S1x1x128x8x1, .f32⟩
  | 48 => ⟨S1x64x128x8x128, .f32⟩
  | 49 => ⟨S1x64x128x8x128, .f32⟩
  | 50 => ⟨S1x8192x8x128, .f32⟩
  | 51 => ⟨S1x8192x8x128, .f32⟩
  | 52 => ⟨S1x64x128x4x4x64, .f32⟩
  | 53 => ⟨S1x64x128x4x64, .f32⟩
  | 54 => ⟨S1x64x128x4x64, .f32⟩
  | 55 => ⟨S1x63x128x4x64, .f32⟩
  | 56 => ⟨S_, .i32⟩
  | 57 => ⟨S_, .f32⟩
  | 58 => ⟨S1x64x128x4x64, .f32⟩
  | 59 => ⟨S1x64x256x4x64, .f32⟩
  | 60 => ⟨S1x63x128x4x64, .f32⟩
  | 61 => ⟨S_, .i32⟩
  | 62 => ⟨S_, .f32⟩
  | 63 => ⟨S1x64x128x4x64, .f32⟩
  | 64 => ⟨S1x64x256x4x64, .f32⟩
  | 65 => ⟨S64, .i32⟩
  | 66 => ⟨S64x1, .i32⟩
  | 67 => ⟨S_, .i32⟩
  | 68 => ⟨S64x1, .i32⟩
  | 69 => ⟨S64x1, .i32⟩
  | 70 => ⟨S128, .i32⟩
  | 71 => ⟨S1x128, .i32⟩
  | 72 => ⟨S64x128, .i32⟩
  | 73 => ⟨S64x128, .i32⟩
  | 74 => ⟨S64x128, .i32⟩
  | 75 => ⟨S_, .i32⟩
  | 76 => ⟨S64x1, .i32⟩
  | 77 => ⟨S64x1, .i32⟩
  | 78 => ⟨S256, .i32⟩
  | 79 => ⟨S1x256, .i32⟩
  | 80 => ⟨S64x256, .i32⟩
  | 81 => ⟨S64x256, .i32⟩
  | 82 => ⟨S64x256, .i32⟩
  | 83 => ⟨S64x128x1, .i32⟩
  | 84 => ⟨S64x1x256, .i32⟩
  | 85 => ⟨S64x128x256, .i32⟩
  | 86 => ⟨S64x128x256, .i32⟩
  | 87 => ⟨S64x128x256, .i32⟩
  | 88 => ⟨S_, .i32⟩
  | 89 => ⟨S64x128x256, .i32⟩
  | 90 => ⟨S64x128x256, .i1⟩
  | 91 => ⟨S_, .i32⟩
  | 92 => ⟨S64x128x256, .i32⟩
  | 93 => ⟨S64x128x256, .i1⟩
  | 94 => ⟨S64x128x256, .i1⟩
  | 95 => ⟨S64x1x256, .i32⟩
  | 96 => ⟨S_, .i32⟩
  | 97 => ⟨S64x1x256, .i32⟩
  | 98 => ⟨S64x1x256, .i1⟩
  | 99 => ⟨S64x128x256, .i1⟩
  | 100 => ⟨S64x128x256, .i1⟩
  | 101 => ⟨S1x64x1x1x128x256, .i1⟩
  | 102 => ⟨S1x64x4x256x128x4, .f32⟩
  | 103 => ⟨S1x64x4x4x128x256, .f32⟩
  | 104 => ⟨S_, .f32⟩
  | 105 => ⟨S1x64x4x4x128x256, .f32⟩
  | 106 => ⟨S1x64x4x4x128x256, .f32⟩
  | 107 => ⟨S_, .f32⟩
  | 108 => ⟨S_, .f32⟩
  | 109 => ⟨S1x64x4x4x128x256, .i1⟩
  | 110 => ⟨S1x64x4x4x128x256, .f32⟩
  | 111 => ⟨S1x64x4x4x128x256, .f32⟩
  | 112 => ⟨S4x4x1x1, .f32⟩
  | 113 => ⟨S_, .f32⟩
  | 114 => ⟨S1x64x4x4x128, .f32⟩
  | 115 => ⟨S1x64x4x4x128x1, .f32⟩
  | 116 => ⟨S1x1x4x4x1x1, .f32⟩
  | 117 => ⟨S1x64x4x4x128x1, .f32⟩
  | 118 => ⟨S1x64x4x4x128x1, .f32⟩
  | 119 => ⟨S1x64x4x4x128x256, .f32⟩
  | 120 => ⟨S1x64x4x4x128x256, .f32⟩
  | 121 => ⟨S1x64x4x4x128x256, .f32⟩
  | 122 => ⟨S_, .f32⟩
  | 123 => ⟨S1x64x4x4x128, .f32⟩
  | 124 => ⟨S1x64x4x4x128x1, .f32⟩
  | 125 => ⟨S1x1x4x4x1x1, .f32⟩
  | 126 => ⟨S1x64x4x4x128x1, .f32⟩
  | 127 => ⟨S1x64x4x4x128x1, .f32⟩
  | _ => ⟨S8192x3584, .f32⟩

abbrev hbmTy0_1 (i : Nat) : BufTy := match i % 128 with
  | 0 => ⟨S1x64x4x4x128x1, .f32⟩
  | 1 => ⟨S1x64x4x4x128x1, .f32⟩
  | 2 => ⟨S1x64x4x4x128x256, .f32⟩
  | 3 => ⟨S1x64x4x4x128x256, .f32⟩
  | 4 => ⟨S1x64x4x64x4x128, .f32⟩
  | 5 => ⟨S1x64x128x4x4x64, .f32⟩
  | 6 => ⟨S1x8192x1024, .f32⟩
  | 7 => ⟨S1x8192x1024, .f32⟩
  | 8 => ⟨S1x8192x2048, .f32⟩
  | 9 => ⟨S8192x2048, .f32⟩
  | _ => ⟨S8192x3584, .f32⟩

abbrev hbmTy (i : Nat) : BufTy := match i / 128 with
  | 0 => hbmTy0_0 i
  | 1 => hbmTy0_1 i
  | _ => ⟨S8192x3584, .f32⟩

abbrev bufTy : (tb : Table) → Fin (tcTables nBuf tb) → BufTy
  | .hbm, ⟨i, _⟩ => hbmTy i
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_cst : Ref sig .tc := ⟨.hbm, 40, rfl⟩
abbrev main_call0_v6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c : Ref sig .tc := ⟨.hbm, 56, rfl⟩
abbrev main_call1_v0 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_3 : Ref sig .tc := ⟨.hbm, 61, rfl⟩
abbrev main_call2_v0 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_6 : Ref sig .tc := ⟨.hbm, 88, rfl⟩
abbrev main_v65 : Ref sig .tc := ⟨.hbm, 89, rfl⟩
abbrev main_v66 : Ref sig .tc := ⟨.hbm, 90, rfl⟩
abbrev main_c_7 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_8 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_9 : Ref sig .tc := ⟨.hbm, 104, rfl⟩
abbrev main_v78 : Ref sig .tc := ⟨.hbm, 105, rfl⟩
abbrev main_v79 : Ref sig .tc := ⟨.hbm, 106, rfl⟩
abbrev main_cst_10 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_v80 : Ref sig .tc := ⟨.hbm, 111, rfl⟩
abbrev main_v81 : Ref sig .tc := ⟨.hbm, 112, rfl⟩
abbrev main_cst_11 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_12 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S2048x3584 : Shape := ⟨2, ![2048, 3584]⟩
abbrev S1x2048 : Shape := ⟨2, ![1, 2048]⟩
abbrev S8192x3584 : Shape := ⟨2, ![8192, 3584]⟩
abbrev S512x2048 : Shape := ⟨2, ![512, 2048]⟩
abbrev S512x3584 : Shape := ⟨2, ![512, 3584]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S128x256 : Shape := ⟨2, ![128, 256]⟩
abbrev S1x1x128x4x64 : Shape := ⟨5, ![1, 1, 128, 4, 64]⟩

abbrev nBuf : Space → Nat
  | .hbm => 10
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3584, .f32⟩
  | .hbm, ⟨3, _⟩ => ⟨S2048x3584, .bf16⟩
  | .hbm, ⟨4, _⟩ => ⟨S1x2048, .f32⟩
  | .hbm, ⟨5, _⟩ => ⟨S8192x3584, .f32⟩
  | .hbm, ⟨6, _⟩ => ⟨S128x256, .f32⟩
  | .hbm, ⟨7, _⟩ => ⟨S1x1x128x4x64, .f32⟩
  | .hbm, ⟨8, _⟩ => ⟨S128x256, .f32⟩
  | .hbm, ⟨9, _⟩ => ⟨S1x1x128x4x64, .f32⟩
  | .local _ .vmem, ⟨0, _⟩ => ⟨S512x2048, .f32⟩
  | .local _ .vmem, ⟨1, _⟩ => ⟨S512x2048, .f32⟩
  | .local _ .vmem, ⟨2, _⟩ => ⟨S2048x3584, .bf16⟩
  | .local _ .vmem, ⟨3, _⟩ => ⟨S1x2048, .f32⟩
  | .local _ .vmem, ⟨4, _⟩ => ⟨S512x3584, .f32⟩
  | .local _ .vmem, ⟨5, _⟩ => ⟨S512x3584, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8192x2048 : Shape := ⟨2, ![8192, 2048]⟩
abbrev S2048 : Shape := ⟨1, ![2048]⟩
abbrev S2048x3584 : Shape := ⟨2, ![2048, 3584]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x3584 : Shape := ⟨2, ![8192, 3584]⟩
abbrev S1x8192x3584 : Shape := ⟨3, ![1, 8192, 3584]⟩
abbrev S1x8192x1024 : Shape := ⟨3, ![1, 8192, 1024]⟩
abbrev S1x8192x256 : Shape := ⟨3, ![1, 8192, 256]⟩
abbrev S1x8192x4x64 : Shape := ⟨4, ![1, 8192, 4, 64]⟩
abbrev S1x128x4x64 : Shape := ⟨4, ![1, 128, 4, 64]⟩
abbrev S1x1x128x4x64 : Shape := ⟨5, ![1, 1, 128, 4, 64]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3584, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x3584, .f32⟩
  | .hbm, ⟨20, _⟩ => ⟨S1x8192x3584, .f32⟩
  | .hbm, ⟨21, _⟩ => ⟨S1x8192x1024, .f32⟩
  | .hbm, ⟨22, _⟩ => ⟨S1x8192x1024, .f32⟩
  | .hbm, ⟨23, _⟩ => ⟨S1x8192x1024, .f32⟩
  | .hbm, ⟨24, _⟩ => ⟨S1x8192x256, .f32⟩
  | .hbm, ⟨25, _⟩ => ⟨S1x8192x256, .f32⟩
  | .hbm, ⟨26, _⟩ => ⟨S1x8192x4x64, .f32⟩
  | .hbm, ⟨27, _⟩ => ⟨S1x8192x4x64, .f32⟩
  | .hbm, ⟨28, _⟩ => ⟨S1x128x4x64, .f32⟩
  | .hbm, ⟨29, _⟩ => ⟨S1x1x128x4x64, .f32⟩
  | .hbm, ⟨30, _⟩ => ⟨S1x128x4x64, .f32⟩
  | .hbm, ⟨31, _⟩ => ⟨S1x1x128x4x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S2048x4096 : Shape := ⟨2, ![2048, 4096]⟩
abbrev S1x2048 : Shape := ⟨2, ![1, 2048]⟩
abbrev S8192x4096 : Shape := ⟨2, ![8192, 4096]⟩
abbrev S512x2048 : Shape := ⟨2, ![512, 2048]⟩
abbrev S512x4096 : Shape := ⟨2, ![512, 4096]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S2048x4096, .bf16⟩
  | .hbm, ⟨4, _⟩ => ⟨S1x2048, .f32⟩
  | .hbm, ⟨5, _⟩ => ⟨S8192x4096, .f32⟩
  | .local _ .vmem, ⟨0, _⟩ => ⟨S512x2048, .f32⟩
  | .local _ .vmem, ⟨1, _⟩ => ⟨S512x2048, .f32⟩
  | .local _ .vmem, ⟨2, _⟩ => ⟨S2048x4096, .bf16⟩
  | .local _ .vmem, ⟨3, _⟩ => ⟨S1x2048, .f32⟩
  | .local _ .vmem, ⟨4, _⟩ => ⟨S512x4096, .f32⟩
  | .local _ .vmem, ⟨5, _⟩ => ⟨S512x4096, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8192x2048 : Shape := ⟨2, ![8192, 2048]⟩
abbrev S2048 : Shape := ⟨1, ![2048]⟩
abbrev S2048x4096 : Shape := ⟨2, ![2048, 4096]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4096 : Shape := ⟨2, ![8192, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S2048x2048, .bf16⟩
  | .hbm, ⟨4, _⟩ => ⟨S1x2048, .f32⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8192x2048 : Shape := ⟨2, ![8192, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel5.lean ====
abbrev S8192x2048 : Shape := ⟨2, ![8192, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel6.lean ====
abbrev S8192x1024 : Shape := ⟨2, ![8192, 1024]⟩
abbrev S2048x2048 : Shape := ⟨2, ![2048, 2048]⟩
abbrev S8192x2048 : Shape := ⟨2, ![8192, 2048]⟩
abbrev S1024x2048 : Shape := ⟨2, ![1024, 2048]⟩
abbrev S512x1024 : Shape := ⟨2, ![512, 1024]⟩
abbrev S512x2048 : Shape := ⟨2, ![512, 2048]⟩
abbrev S1024x512 : Shape := ⟨2, ![1024, 512]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .f32⟩
  | .hbm, ⟨3, _⟩ => ⟨S8192x2048, .f32⟩
  | .hbm, ⟨4, _⟩ => ⟨S2048x2048, .bf16⟩
  | .hbm, ⟨5, _⟩ => ⟨S1024x2048, .bf16⟩
  | .hbm, ⟨6, _⟩ => ⟨S1024x2048, .bf16⟩
  | .hbm, ⟨7, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8192x1024 : Shape := ⟨2, ![8192, 1024]⟩
abbrev S2048x2048 : Shape := ⟨2, ![2048, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .bf16⟩
  | .hbm, ⟨4, _⟩ => ⟨S1x1024, .f32⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel8.lean ====
abbrev S128x4x2048 : Shape := ⟨3, ![128, 4, 2048]⟩
abbrev S2048 : Shape := ⟨1, ![2048]⟩
abbrev S2048x3584 : Shape := ⟨2, ![2048, 3584]⟩
abbrev S1x128x128x4x64 : Shape := ⟨5, ![1, 128, 128, 4, 64]⟩
abbrev S512x2048 : Shape := ⟨2, ![512, 2048]⟩
abbrev S1x2048 : Shape := ⟨2, ![1, 2048]⟩
abbrev S512x3584 : Shape := ⟨2, ![512, 3584]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S128x128x4x64 : Shape := ⟨4, ![128, 128, 4, 64]⟩
abbrev S128x128x256 : Shape := ⟨3, ![128, 128, 256]⟩
abbrev S512x256 : Shape := ⟨2, ![512, 256]⟩
abbrev S128x4x256 : Shape := ⟨3, ![128, 4, 256]⟩
abbrev S128x132x256 : Shape := ⟨3, ![128, 132, 256]⟩

abbrev nBuf : Space → Nat
  | .hbm => 23
  | .vmem => 4
  | .smem => 0
  | _ => 0

abbrev bufTy : (tb : Table) → Fin (tcTables nBuf tb) → BufTy
  | .hbm, ⟨0, _⟩ => ⟨S128x4x2048, .f32⟩
  | .hbm, ⟨1, _⟩ => ⟨S2048, .f32⟩
  | .hbm, ⟨2, _⟩ => ⟨S2048x3584, .f32⟩
  | .hbm, ⟨3, _⟩ => ⟨S1x128x128x4x64, .f32⟩
  | .hbm, ⟨4, _⟩ => ⟨S1x128x128x4x64, .f32⟩
  | .hbm, ⟨5, _⟩ => ⟨S512x2048, .f32⟩
  | .hbm, ⟨6, _⟩ => ⟨S2048x3584, .bf16⟩
  | .hbm, ⟨7, _⟩ => ⟨S1x2048, .f32⟩
  | .hbm, ⟨8, _⟩ => ⟨S512x3584, .f32⟩
  | .hbm, ⟨9, _⟩ => ⟨S128x128x4x64, .f32⟩
  | .hbm, ⟨10, _⟩ => ⟨S128x128x256, .f32⟩
  | .hbm, ⟨11, _⟩ => ⟨S128x128x4x64, .f32⟩
  | .hbm, ⟨12, _⟩ => ⟨S128x128x256, .f32⟩
  | .hbm, ⟨13, _⟩ => ⟨S512x256, .f32⟩
  | .hbm, ⟨14, _⟩ => ⟨S128x4x256, .f32⟩
  | .hbm, ⟨15, _⟩ => ⟨S512x256, .f32⟩
  | .hbm, ⟨16, _⟩ => ⟨S128x4x256, .f32⟩
  | .hbm, ⟨17, _⟩ => ⟨S128x132x256, .f32⟩
  | .hbm, ⟨18, _⟩ => ⟨S128x128x256, .f32⟩
  | .hbm, ⟨19, _⟩ => ⟨S1x128x128x4x64, .f32⟩
  | .hbm, ⟨20, _⟩ => ⟨S128x132x256, .f32⟩
  | .hbm, ⟨21, _⟩ => ⟨S128x128x256, .f32⟩
  | .hbm, ⟨22, _⟩ => ⟨S1x128x128x4x64, .f32⟩
  | .local _ .vmem, ⟨0, _⟩ => ⟨S512x2048, .f32⟩
  | .local _ .vmem, ⟨1, _⟩ => ⟨S2048x3584, .bf16⟩
  | .local _ .vmem, ⟨2, _⟩ => ⟨S1x2048, .f32⟩
  | .local _ .vmem, ⟨3, _⟩ => ⟨S512x3584, .f32⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference8Ideal.lean ====
abbrev S128x4x2048 : Shape := ⟨3, ![128, 4, 2048]⟩
abbrev S2048 : Shape := ⟨1, ![2048]⟩
abbrev S2048x3584 : Shape := ⟨2, ![2048, 3584]⟩
abbrev S1x128x128x4x64 : Shape := ⟨5, ![1, 128, 128, 4, 64]⟩
abbrev S_ : Shape := ⟨0, ![]⟩
abbrev S128x4 : Shape := ⟨2, ![128, 4]⟩
abbrev S128x4x1 : Shape := ⟨3, ![128, 4, 1]⟩
abbrev S1x1x2048 : Shape := ⟨3, ![1, 1, 2048]⟩
abbrev S128x4x3584 : Shape := ⟨3, ![128, 4, 3584]⟩
abbrev S128x4x1024 : Shape := ⟨3, ![128, 4, 1024]⟩
abbrev S128x4x256 : Shape := ⟨3, ![128, 4, 256]⟩
abbrev S128x4x4x64 : Shape := ⟨4, ![128, 4, 4, 64]⟩
abbrev S128x128x4x64 : Shape := ⟨4, ![128, 128, 4, 64]⟩
abbrev S128x132x4x64 : Shape := ⟨4, ![128, 132, 4, 64]⟩
abbrev S512x3584 : Shape := ⟨2, ![512, 3584]⟩

abbrev nBuf : Space → Nat
  | .hbm => 38
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S2048, .f32⟩
  | .hbm, ⟨2, _⟩ => ⟨S2048x3584, .f32⟩
  | .hbm, ⟨3, _⟩ => ⟨S1x128x128x4x64, .f32⟩
  | .hbm, ⟨4, _⟩ => ⟨S1x128x128x4x64, .f32⟩
  | .hbm, ⟨5, _⟩ => ⟨S128x4x2048, .f32⟩
  | .hbm, ⟨6, _⟩ => ⟨S_, .f32⟩
  | .hbm, ⟨7, _⟩ => ⟨S128x4, .f32⟩
  | .hbm, ⟨8, _⟩ => ⟨S128x4x1, .f32⟩
  | .hbm, ⟨9, _⟩ => ⟨S_, .f32⟩
  | .hbm, ⟨10, _⟩ => ⟨S128x4x1, .f32⟩
  | .hbm, ⟨11, _⟩ => ⟨S128x4x1, .f32⟩
  | .hbm, ⟨12, _⟩ => ⟨S_, .f32⟩
  | .hbm, ⟨13, _⟩ => ⟨S128x4x1, .f32⟩
  | .hbm, ⟨14, _⟩ => ⟨S128x4x1, .f32⟩
  | .hbm, ⟨15, _⟩ => ⟨S128x4x1, .f32⟩
  | .hbm, ⟨16, _⟩ => ⟨S128x4x2048, .f32⟩
  | .hbm, ⟨17, _⟩ => ⟨S128x4x2048, .f32⟩
  | .hbm, ⟨18, _⟩ => ⟨S1x1x2048, .f32⟩
  | .hbm, ⟨19, _⟩ => ⟨S128x4x2048, .f32⟩
  | .hbm, ⟨20, _⟩ => ⟨S128x4x2048, .f32⟩
  | .hbm, ⟨21, _⟩ => ⟨S128x4x3584, .f32⟩
  | .hbm, ⟨22, _⟩ => ⟨S128x4x1024, .f32⟩
  | .hbm, ⟨23, _⟩ => ⟨S128x4x1024, .f32⟩
  | .hbm, ⟨24, _⟩ => ⟨S128x4x1024, .f32⟩
  | .hbm, ⟨25, _⟩ => ⟨S128x4x256, .f32⟩
  | .hbm, ⟨26, _⟩ => ⟨S128x4x256, .f32⟩
  | .hbm, ⟨27, _⟩ => ⟨S128x4x4x64, .f32⟩
  | .hbm, ⟨28, _⟩ => ⟨S128x4x4x64, .f32⟩
  | .hbm, ⟨29, _⟩ => ⟨S128x128x4x64, .f32⟩
  | .hbm, ⟨30, _⟩ => ⟨S128x132x4x64, .f32⟩
  | .hbm, ⟨31, _⟩ => ⟨S128x128x4x64, .f32⟩
  | .hbm, ⟨32, _⟩ => ⟨S128x132x4x64, .f32⟩
  | .hbm, ⟨33, _⟩ => ⟨S512x3584, .f32⟩
  | .hbm, ⟨34, _⟩ => ⟨S128x128x4x64, .f32⟩
  | .hbm, ⟨35, _⟩ => ⟨S1x128x128x4x64, .f32⟩
  | .hbm, ⟨36, _⟩ => ⟨S128x128x4x64, .f32⟩
  | .hbm, ⟨37, _⟩ => ⟨S1x128x128x4x64, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel9.lean ====
abbrev S512x4096 : Shape := ⟨2, ![512, 4096]⟩
abbrev S1024 : Shape := ⟨1, ![1024]⟩
abbrev S1x128x8x64x128 : Shape := ⟨5, ![1, 128, 8, 64, 128]⟩
abbrev S128x4x4096 : Shape := ⟨3, ![128, 4, 4096]⟩
abbrev S_ : Shape := ⟨0, ![]⟩
abbrev S128x8x4096 : Shape := ⟨3, ![128, 8, 4096]⟩
abbrev S8 : Shape := ⟨1, ![8]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x64 : Shape := ⟨2, ![8, 64]⟩
abbrev S1x8x1x64 : Shape := ⟨4, ![1, 8, 1, 64]⟩
abbrev S1x8x8x64 : Shape := ⟨4, ![1, 8, 8, 64]⟩
abbrev S8x512 : Shape := ⟨2, ![8, 512]⟩
abbrev S1x8 : Shape := ⟨2, ![1, 8]⟩
abbrev S8x8 : Shape := ⟨2, ![8, 8]⟩
abbrev S1x8x8 : Shape := ⟨3, ![1, 8, 8]⟩
abbrev S8x1x1 : Shape := ⟨3, ![8, 1, 1]⟩
abbrev S8x8x8 : Shape := ⟨3, ![8, 8, 8]⟩
abbrev S1x1x8 : Shape := ⟨3, ![1, 1, 8]⟩
abbrev S8x8x1 : Shape := ⟨3, ![8, 8, 1]⟩
abbrev S8x8x128 : Shape := ⟨3, ![8, 8, 128]⟩
abbrev S8x8x64 : Shape := ⟨3, ![8, 8, 64]⟩
abbrev S8x64x128 : Shape := ⟨3, ![8, 64, 128]⟩
abbrev S128x8x64x128 : Shape := ⟨4, ![128, 8, 64, 128]⟩
abbrev S64x8 : Shape := ⟨2, ![64, 8]⟩
abbrev S64x128 : Shape := ⟨2, ![64, 128]⟩
abbrev S512x128 : Shape := ⟨2, ![512, 128]⟩
abbrev S128x512x128 : Shape := ⟨3, ![128, 512, 128]⟩
abbrev S1x1024 : Shape := ⟨2, ![1, 1024]⟩
abbrev S128x8x1024 : Shape := ⟨3, ![128, 8, 1024]⟩
abbrev S8x8x1024 : Shape := ⟨3, ![8, 8, 1024]⟩
abbrev S8x512x128 : Shape := ⟨3, ![8, 512, 128]⟩
abbrev S1x8x1024 : Shape := ⟨3, ![1, 8, 1024]⟩
abbrev S8x1024 : Shape := ⟨2, ![8, 1024]⟩
abbrev S64x512 : Shape := ⟨2, ![64, 512]⟩
abbrev S1x512x128 : Shape := ⟨3, ![1, 512, 128]⟩
abbrev S64x1024 : Shape := ⟨2, ![64, 1024]⟩
abbrev S8x128 : Shape := ⟨2, ![8, 128]⟩
abbrev S1x128 : Shape := ⟨2, ![1, 128]⟩
abbrev S1x8x128 : Shape := ⟨3, ![1, 8, 128]⟩
abbrev S1x64x128 : Shape := ⟨3, ![1, 64, 128]⟩
abbrev S128x4x1024 : Shape := ⟨3, ![128, 4, 1024]⟩
abbrev S512x1024 : Shape := ⟨2, ![512, 1024]⟩

abbrev nBuf : Space → Nat
  | .hbm => 127
  | .vmem => 19
  | .smem => 0
  | _ => 0

abbrev bufTy : (tb : Table) → Fin (tcTables nBuf tb) → BufTy
  | .hbm, ⟨0, _⟩ => ⟨S512x4096, .f32⟩
  | .hbm, ⟨1, _⟩ => ⟨S1024, .f32⟩
  | .hbm, ⟨2, _⟩ => ⟨S1x128x8x64x128, .f32⟩
  | .hbm, ⟨3, _⟩ => ⟨S128x4x4096, .f32⟩
  | .hbm, ⟨4, _⟩ => ⟨S_, .i32⟩
  | .hbm, ⟨5, _⟩ => ⟨S_, .f32⟩
  | .hbm, ⟨6, _⟩ => ⟨S128x8x4096, .f32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8, .f32⟩
  | .hbm, ⟨20, _⟩ => ⟨S8x1, .f32⟩
  | .hbm, ⟨21, _⟩ => ⟨S1x32, .f32⟩
  | .hbm, ⟨22, _⟩ => ⟨S8x32, .f32⟩
  | .hbm, ⟨23, _⟩ => ⟨S8x32, .f32⟩
  | .hbm, ⟨24, _⟩ => ⟨S8x32, .f32⟩
  | .hbm, ⟨25, _⟩ => ⟨S8x32, .f32⟩
  | .hbm, ⟨26, _⟩ => ⟨S8x32, .f32⟩
  | .hbm, ⟨27, _⟩ => ⟨S8x64, .f32⟩
  | .hbm, ⟨28, _⟩ => ⟨S1x8x1x64, .f32⟩
  | .hbm, ⟨29, _⟩ => ⟨S1x8x8x64, .f32⟩
  | .hbm, ⟨30, _⟩ => ⟨S8x512, .f32⟩
  | .hbm, ⟨31, _⟩ => ⟨S8x32, .f32⟩
  | .hbm, ⟨32, _⟩ => ⟨S8x64, .f32⟩
  | .hbm, ⟨33, _⟩ => ⟨S1x8x1x64, .f32⟩
  | .hbm, ⟨34, _⟩ => ⟨S1x8x8x64, .f32⟩
  | .hbm, ⟨35, _⟩ => ⟨S8x512, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S8, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S8, .i32⟩
  | .hbm, ⟨48, _⟩ => ⟨S_, .i32⟩
  | .hbm, ⟨49, _⟩ => ⟨S8, .i32⟩
  | .hbm, ⟨50, _⟩ => ⟨S8, .i1⟩
  | .hbm, ⟨51, _⟩ => ⟨S8x1, .f32⟩
  | .hbm, ⟨52, _⟩ => ⟨S1x8, .f32⟩
  | .hbm, ⟨53, _⟩ => ⟨S8x8, .f32⟩
  | .hbm, ⟨54, _⟩ => ⟨S8x8, .f32⟩
  | .hbm, ⟨55, _⟩ => ⟨S8x8, .f32⟩
  | .hbm, ⟨56, _⟩ => ⟨S_, .f32⟩
  | .hbm, ⟨57, _⟩ => ⟨S8x8, .f32⟩
  | .hbm, ⟨58, _⟩ => ⟨S8x8, .i1⟩
  | .hbm, ⟨59, _⟩ => ⟨S_, .f32⟩
  | .hbm, ⟨60, _⟩ => ⟨S8x8, .f32⟩
  | .hbm, ⟨61, _⟩ => ⟨S8x8, .f32⟩
  | .hbm, ⟨62, _⟩ => ⟨S1x8x8, .f32⟩
  | .hbm, ⟨63, _⟩ => ⟨S8x1x1, .f32⟩
  | .hbm, ⟨64, _⟩ => ⟨S8x8x8, .f32⟩
  | .hbm, ⟨65, _⟩ => ⟨S8x8x8, .f32⟩
  | .hbm, ⟨66, _⟩ => ⟨S8x8x8, .f32⟩
  | .hbm, ⟨67, _⟩ => ⟨S8x8x8, .f32⟩
  | .hbm, ⟨68, _⟩ => ⟨S_, .f32⟩
  | .hbm, ⟨69, _⟩ => ⟨S_, .f32⟩
  | .hbm, ⟨70, _⟩ => ⟨S8x8x8, .i1⟩
  | .hbm, ⟨71, _⟩ => ⟨S8x8x8, .f32⟩
  | .hbm, ⟨72, _⟩ => ⟨S8x8x8, .f32⟩
  | .hbm, ⟨73, _⟩ => ⟨S1x1x8, .i1⟩
  | .hbm, ⟨74, _⟩ => ⟨S_, .f32⟩
  | .hbm, ⟨75, _⟩ => ⟨S_, .f32⟩
  | .hbm, ⟨76, _⟩ => ⟨S8x8x8, .i1⟩
  | .hbm, ⟨77, _⟩ => ⟨S8x8x8, .f32⟩
  | .hbm, ⟨78, _⟩ => ⟨S8x8x8, .f32⟩
  | .hbm, ⟨79, _⟩ => ⟨S1x8, .f32⟩
  | .hbm, ⟨80, _⟩ => ⟨S_, .f32⟩
  | .hbm, ⟨81, _⟩ => ⟨S1x8, .f32⟩
  | .hbm, ⟨82, _⟩ => ⟨S1x8, .f32⟩
  | .hbm, ⟨83, _⟩ => ⟨S8x1, .f32⟩
  | .hbm, ⟨84, _⟩ => ⟨S8x8, .f32⟩
  | .hbm, ⟨85, _⟩ => ⟨S8x8, .f32⟩
  | .hbm, ⟨86, _⟩ => ⟨S8x8, .f32⟩
  | .hbm, ⟨87, _⟩ => ⟨S8x8, .f32⟩
  | .hbm, ⟨88, _⟩ => ⟨S1x8, .i1⟩
  | .hbm, ⟨89, _⟩ => ⟨S_, .f32⟩
  | .hbm, ⟨90, _⟩ => ⟨S8, .f32⟩
  | .hbm, ⟨91, _⟩ => ⟨S8, .f32⟩
  | .hbm, ⟨92, _⟩ => ⟨S1x8, .f32⟩
  | .hbm, ⟨93, _⟩ => ⟨S8x1, .f32⟩
  | .hbm, ⟨94, _⟩ => ⟨S8x8, .f32⟩
  | .hbm, ⟨95, _⟩ => ⟨S8x8, .f32⟩
  | .hbm, ⟨96, _⟩ => ⟨S8x8, .f32⟩
  | .hbm, ⟨97, _⟩ => ⟨S8x8, .f32⟩
  | .hbm, ⟨98, _⟩ => ⟨S_, .f32⟩
  | .hbm, ⟨99, _⟩ => ⟨S_, .f32⟩
  | .hbm, ⟨100, _⟩ => ⟨S8x8, .i1⟩
  | .hbm, ⟨101, _⟩ => ⟨S8x8, .f32⟩
  | .hbm, ⟨102, _⟩ => ⟨S8x8, .f32⟩
  | .hbm, ⟨103, _⟩ => ⟨S_, .f32⟩
  | .hbm, ⟨104, _⟩ => ⟨S8, .f32⟩
  | .hbm, ⟨105, _⟩ => ⟨S8, .f32⟩
  | .hbm, ⟨106, _⟩ => ⟨S8, .f32⟩
  | .hbm, ⟨107, _⟩ => ⟨S8x8x1, .f32⟩
  | .hbm, ⟨108, _⟩ => ⟨S8x8x128, .f32⟩
  | .hbm, ⟨109, _⟩ => ⟨S8x8x1, .f32⟩
  | .hbm, ⟨110, _⟩ => ⟨S8x8x64, .f32⟩
  | .hbm, ⟨111, _⟩ => ⟨S8x1x1, .f32⟩
  | .hbm, ⟨112, _⟩ => ⟨S8x64x128, .f32⟩
  | .hbm, ⟨113, _⟩ => ⟨S128x8x64x128, .f32⟩
  | .hbm, ⟨114, _⟩ => ⟨S64x8, .f32⟩
  | .hbm, ⟨115, _⟩ => ⟨S64x128, .f32⟩
  | .hbm, ⟨116, _⟩ => ⟨S8x8x64, .f32⟩
  | .hbm, ⟨117, _⟩ => ⟨S8x512, .f32⟩
  | .hbm, ⟨118, _⟩ => ⟨S512x128, .f32⟩
  | .hbm, ⟨119, _⟩ => ⟨S128x512x128, .f32⟩
  | .hbm, ⟨120, _⟩ => ⟨S1x1024, .f32⟩
  | .hbm, ⟨121, _⟩ => ⟨S128x8x1024, .f32⟩
  | .hbm, ⟨122, _⟩ => ⟨S128x512x128, .f32⟩
  | .hbm, ⟨123, _⟩ => ⟨S128x8x64x128, .f32⟩
  | .hbm, ⟨124, _⟩ => ⟨S128x4x1024, .f32⟩
  | .hbm, ⟨125, _⟩ => ⟨S512x1024, .f32⟩
  | .hbm, ⟨126, _⟩ => ⟨S1x128x8x64x128, .f32⟩
  | .local _ .vmem, ⟨0, _⟩ => ⟨S8x8x1024, .f32⟩
  | .local _ .vmem, ⟨1, _⟩ => ⟨S8x8x1024, .f32⟩
  | .local _ .vmem, ⟨2, _⟩ => ⟨S8x8x1024, .f32⟩
  | .local _ .vmem, ⟨3, _⟩ => ⟨S8x8x1024, .f32⟩
  | .local _ .vmem, ⟨4, _⟩ => ⟨S8x8x1024, .f32⟩
  | .local _ .vmem, ⟨5, _⟩ => ⟨S8x8x1024, .f32⟩
  | .local _ .vmem, ⟨6, _⟩ => ⟨S8x512, .f32⟩
  | .local _ .vmem, ⟨7, _⟩ => ⟨S8x512, .f32⟩
  | .local _ .vmem, ⟨8, _⟩ => ⟨S64x8, .f32⟩
  | .local _ .vmem, ⟨9, _⟩ => ⟨S64x128, .f32⟩
  | .local _ .vmem, ⟨10, _⟩ => ⟨S8x512, .f32⟩
  | .local _ .vmem, ⟨11, _⟩ => ⟨S512x128, .f32⟩
  | .local _ .vmem, ⟨12, _⟩ => ⟨S1x1024, .f32⟩
  | .local _ .vmem, ⟨13, _⟩ => ⟨S8x512x128, .f32⟩
  | .local _ .vmem, ⟨14, _⟩ => ⟨S8x512x128, .f32⟩
  | .local _ .vmem, ⟨15, _⟩ => ⟨S8x8x1024, .f32⟩
  | .local _ .vmem, ⟨16, _⟩ => ⟨S8x8x1024, .f32⟩
  | .local _ .vmem, ⟨17, _⟩ => ⟨S8x512x128, .f32⟩
  | .local _ .vmem, ⟨18, _⟩ => ⟨S8x512x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_11 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93_0 : Ref sig .tc := ⟨.hbm, 121, rfl⟩
abbrev main_v93_1 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference9Ideal.lean ====
abbrev S512x4096 : Shape := ⟨2, ![512, 4096]⟩
abbrev S1024 : Shape := ⟨1, ![1024]⟩
abbrev S1x128x8x64x128 : Shape := ⟨5, ![1, 128, 8, 64, 128]⟩
abbrev S128x4x4096 : Shape := ⟨3, ![128, 4, 4096]⟩
abbrev S128x4x512 : Shape := ⟨3, ![128, 4, 512]⟩
abbrev S128x4x1024 : Shape := ⟨3, ![128, 4, 1024]⟩
abbrev S4 : Shape := ⟨1, ![4]⟩
abbrev S_ : Shape := ⟨0, ![]⟩
abbrev S128x4x8x64 : Shape := ⟨4, ![128, 4, 8, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x1x32 : Shape := ⟨3, ![4, 1, 32]⟩
abbrev S128x4x8x32 : Shape := ⟨4, ![128, 4, 8, 32]⟩
abbrev S1x4x1x32 : Shape := ⟨4, ![1, 4, 1, 32]⟩
abbrev S128x4x8x128 : Shape := ⟨4, ![128, 4, 8, 128]⟩
abbrev S128x8x64x128 : Shape := ⟨4, ![128, 8, 64, 128]⟩
abbrev S8 : Shape := ⟨1, ![8]⟩
abbrev S1x4 : Shape := ⟨2, ![1, 4]⟩
abbrev S4x4 : Shape := ⟨2, ![4, 4]⟩
abbrev S1x4x4 : Shape := ⟨3, ![1, 4, 4]⟩
abbrev S8x1x1 : Shape := ⟨3, ![8, 1, 1]⟩
abbrev S8x4x4 : Shape := ⟨3, ![8, 4, 4]⟩
abbrev S128x8x4x4 : Shape := ⟨4, ![128, 8, 4, 4]⟩
abbrev S1x8x4x4 : Shape := ⟨4, ![1, 8, 4, 4]⟩
abbrev S128x8x128x4 : Shape := ⟨4, ![128, 8, 128, 4]⟩
abbrev S1x8 : Shape := ⟨2, ![1, 8]⟩
abbrev S4x8 : Shape := ⟨2, ![4, 8]⟩
abbrev S4x8x1 : Shape := ⟨3, ![4, 8, 1]⟩
abbrev S1x4x8x1 : Shape := ⟨4, ![1, 4, 8, 1]⟩
abbrev S1x8x1x1 : Shape := ⟨4, ![1, 8, 1, 1]⟩
abbrev S128x4x8 : Shape := ⟨3, ![128, 4, 8]⟩
abbrev S128x4x8x1 : Shape := ⟨4, ![128, 4, 8, 1]⟩
abbrev S1x1x1024 : Shape := ⟨3, ![1, 1, 1024]⟩
abbrev S512x1024 : Shape := ⟨2, ![512, 1024]⟩

abbrev nBuf : Space → Nat
  | .hbm => 207
  | .vmem => 0
  | .smem => 0
  | _ => 0

abbrev hbmTy0_0 (i : Nat) : BufTy := match i % 128 with
  | 0 => ⟨S512x4096, .f32⟩
  | 1 => ⟨S1024, .f32⟩
  | 2 => ⟨S1x128x8x64x128, .f32⟩
  | 3 => ⟨S128x4x4096, .f32⟩
  | 4 => ⟨S128x4x512, .f32⟩
  | 5 => ⟨S128x4x512, .f32⟩
  | 6 => ⟨S128x4x1024, .f32⟩
  | 7 => ⟨S128x4x1024, .f32⟩
  | 8 => ⟨S128x4x1024, .f32⟩
  | 9 => ⟨S4, .i32⟩
  | 10 => ⟨S_, .i32⟩
  | 11 => ⟨S4, .i32⟩
  | 12 => ⟨S4, .i32⟩
  | 13 => ⟨S128x4x8x64, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S4, .f32⟩
  | 23 => ⟨S4x1, .f32⟩
  | 24 => ⟨S1x32, .f32⟩
  | 25 => ⟨S4x32, .f32⟩
  | 26 => ⟨S4x32, .f32⟩
  | 27 => ⟨S4x32, .f32⟩
  | 28 => ⟨S4x32, .f32⟩
  | 29 => ⟨S4x1x32, .f32⟩
  | 30 => ⟨S4x32, .f32⟩
  | 31 => ⟨S4x1x32, .f32⟩
  | 32 => ⟨S128x4x8x32, .f32⟩
  | 33 => ⟨S128x4x8x32, .f32⟩
  | 34 => ⟨S1x4x1x32, .f32⟩
  | 35 => ⟨S128x4x8x32, .f32⟩
  | 36 => ⟨S128x4x8x32, .f32⟩
  | 37 => ⟨S1x4x1x32, .f32⟩
  | 38 => ⟨S128x4x8x32, .f32⟩
  | 39 => ⟨S128x4x8x32, .f32⟩
  | 40 => ⟨S128x4x8x32, .f32⟩
  | 41 => ⟨S1x4x1x32, .f32⟩
  | 42 => ⟨S128x4x8x32, .f32⟩
  | 43 => ⟨S128x4x8x32, .f32⟩
  | 44 => ⟨S1x4x1x32, .f32⟩
  | 45 => ⟨S128x4x8x32, .f32⟩
  | 46 => ⟨S128x4x8x32, .f32⟩
  | 47 => ⟨S128x4x8x32, .f32⟩
  | 48 => ⟨S128x4x8x64, .f32⟩
  | 49 => ⟨S_, .f32⟩
  | 50 => ⟨S128x4x8x64, .f32⟩
  | 51 => ⟨S128x4x8x64, .f32⟩
  | 52 => ⟨S128x4x8x64, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S4, .f32⟩
  | 62 => ⟨S4x1, .f32⟩
  | 63 => ⟨S1x32, .f32⟩
  | 64 => ⟨S4x32, .f32⟩
  | 65 => ⟨S4x32, .f32⟩
  | 66 => ⟨S4x32, .f32⟩
  | 67 => ⟨S4x32, .f32⟩
  | 68 => ⟨S4x1x32, .f32⟩
  | 69 => ⟨S4x32, .f32⟩
  | 70 => ⟨S4x1x32, .f32⟩
  | 71 => ⟨S128x4x8x32, .f32⟩
  | 72 => ⟨S128x4x8x32, .f32⟩
  | 73 => ⟨S1x4x1x32, .f32⟩
  | 74 => ⟨S128x4x8x32, .f32⟩
  | 75 => ⟨S128x4x8x32, .f32⟩
  | 76 => ⟨S1x4x1x32, .f32⟩
  | 77 => ⟨S128x4x8x32, .f32⟩
  | 78 => ⟨S128x4x8x32, .f32⟩
  | 79 => ⟨S128x4x8x32, .f32⟩
  | 80 => ⟨S1x4x1x32, .f32⟩
  | 81 => ⟨S128x4x8x32, .f32⟩
  | 82 => ⟨S128x4x8x32, .f32⟩
  | 83 => ⟨S1x4x1x32, .f32⟩
  | 84 => ⟨S128x4x8x32, .f32⟩
  | 85 => ⟨S128x4x8x32, .f32⟩
  | 86 => ⟨S128x4x8x32, .f32⟩
  | 87 => ⟨S128x4x8x64, .f32⟩
  | 88 => ⟨S128x4x8x128, .f32⟩
  | 89 => ⟨S128x8x64x128, .f32⟩
  | 90 => ⟨S8, .f32⟩
  | 91 => ⟨S_, .f32⟩
  | 92 => ⟨S8, .f32⟩
  | 93 => ⟨S8, .f32⟩
  | 94 => ⟨S_, .f32⟩
  | 95 => ⟨S8, .f32⟩
  | 96 => ⟨S8, .f32⟩
  | 97 => ⟨S8, .f32⟩
  | 98 => ⟨S8, .f32⟩
  | 99 => ⟨S8, .f32⟩
  | 100 => ⟨S4, .f32⟩
  | 101 => ⟨S4x1, .f32⟩
  | 102 => ⟨S1x4, .f32⟩
  | 103 => ⟨S4x4, .f32⟩
  | 104 => ⟨S4x4, .f32⟩
  | 105 => ⟨S4x4, .f32⟩
  | 106 => ⟨S_, .f32⟩
  | 107 => ⟨S4x4, .f32⟩
  | 108 => ⟨S4x4, .i1⟩
  | 109 => ⟨S_, .f32⟩
  | 110 => ⟨S4x4, .f32⟩
  | 111 => ⟨S4x4, .f32⟩
  | 112 => ⟨S1x4x4, .f32⟩
  | 113 => ⟨S8x1x1, .f32⟩
  | 114 => ⟨S8x4x4, .f32⟩
  | 115 => ⟨S8x4x4, .f32⟩
  | 116 => ⟨S8x4x4, .f32⟩
  | 117 => ⟨S8x4x4, .f32⟩
  | 118 => ⟨S_, .f32⟩
  | 119 => ⟨S_, .f32⟩
  | 120 => ⟨S8x4x4, .i1⟩
  | 121 => ⟨S8x4x4, .f32⟩
  | 122 => ⟨S8x4x4, .f32⟩
  | 123 => ⟨S128x8x4x4, .f32⟩
  | 124 => ⟨S1x8x4x4, .f32⟩
  | 125 => ⟨S128x8x4x4, .f32⟩
  | 126 => ⟨S128x8x4x4, .f32⟩
  | 127 => ⟨S128x8x128x4, .f32⟩
  | _ => ⟨S512x4096, .f32⟩

abbrev hbmTy0_1 (i : Nat) : BufTy := match i % 128 with
  | 0 => ⟨S128x4x8x128, .f32⟩
  | 1 => ⟨S4x1, .f32⟩
  | 2 => ⟨S_, .f32⟩
  | 3 => ⟨S4x1, .f32⟩
  | 4 => ⟨S4x1, .f32⟩
  | 5 => ⟨S1x8, .f32⟩
  | 6 => ⟨S4x8, .f32⟩
  | 7 => ⟨S4x8, .f32⟩
  | 8 => ⟨S4x8, .f32⟩
  | 9 => ⟨S4x8, .f32⟩
  | 10 => ⟨S128x8x128x4, .f32⟩
  | 11 => ⟨S128x4x8x128, .f32⟩
  | 12 => ⟨S4x8x1, .f32⟩
  | 13 => ⟨S1x4x8x1, .f32⟩
  | 14 => ⟨S128x4x8x128, .f32⟩
  | 15 => ⟨S128x4x8x128, .f32⟩
  | 16 => ⟨S128x4x8x128, .f32⟩
  | 17 => ⟨S_, .f32⟩
  | 18 => ⟨S4, .f32⟩
  | 19 => ⟨S4, .f32⟩
  | 20 => ⟨S4x1, .f32⟩
  | 21 => ⟨S1x8, .f32⟩
  | 22 => ⟨S4x8, .f32⟩
  | 23 => ⟨S4x8, .f32⟩
  | 24 => ⟨S4x8, .f32⟩
  | 25 => ⟨S4x8, .f32⟩
  | 26 => ⟨S_, .f32⟩
  | 27 => ⟨S8, .f32⟩
  | 28 => ⟨S8, .f32⟩
  | 29 => ⟨S8, .f32⟩
  | 30 => ⟨S8x1x1, .f32⟩
  | 31 => ⟨S1x8x1x1, .f32⟩
  | 32 => ⟨S128x8x64x128, .f32⟩
  | 33 => ⟨S128x8x64x128, .f32⟩
  | 34 => ⟨S4x8x1, .f32⟩
  | 35 => ⟨S1x4x8x1, .f32⟩
  | 36 => ⟨S128x4x8x64, .f32⟩
  | 37 => ⟨S128x4x8x64, .f32⟩
  | 38 => ⟨S128x8x64x128, .f32⟩
  | 39 => ⟨S128x8x64x128, .f32⟩
  | 40 => ⟨S_, .f32⟩
  | 41 => ⟨S128x4x8, .f32⟩
  | 42 => ⟨S128x4x8x1, .f32⟩
  | 43 => ⟨S_, .f32⟩
  | 44 => ⟨S128x4x8x1, .f32⟩
  | 45 => ⟨S128x4x8x1, .f32⟩
  | 46 => ⟨S128x4x8x128, .f32⟩
  | 47 => ⟨S128x4x8x128, .f32⟩
  | 48 => ⟨S128x4x8x128, .f32⟩
  | 49 => ⟨S_, .f32⟩
  | 50 => ⟨S128x4x8, .f32⟩
  | 51 => ⟨S128x4x8x1, .f32⟩
  | 52 => ⟨S_, .f32⟩
  | 53 => ⟨S128x4x8x1, .f32⟩
  | 54 => ⟨S128x4x8x1, .f32⟩
  | 55 => ⟨S128x4x8x128, .f32⟩
  | 56 => ⟨S128x4x8x128, .f32⟩
  | 57 => ⟨S_, .f32⟩
  | 58 => ⟨S128x4x8x1, .f32⟩
  | 59 => ⟨S128x4x8x1, .f32⟩
  | 60 => ⟨S128x4x8x1, .f32⟩
  | 61 => ⟨S128x4x8x128, .f32⟩
  | 62 => ⟨S128x4x8x128, .f32⟩
  | 63 => ⟨S128x4x1024, .f32⟩
  | 64 => ⟨S1x1x1024, .f32⟩
  | 65 => ⟨S128x4x1024, .f32⟩
  | 66 => ⟨S128x4x1024, .f32⟩
  | 67 => ⟨S128x4x1024, .f32⟩
  | 68 => ⟨S128x4x1024, .f32⟩
  | 69 => ⟨S_, .f32⟩
  | 70 => ⟨S128x4x1024, .f32⟩
  | 71 => ⟨S128x4x1024, .f32⟩
  | 72 => ⟨S_, .f32⟩
  | 73 => ⟨S128x4x1024, .f32⟩
  | 74 => ⟨S128x4x1024, .f32⟩
  | 75 => ⟨S128x4x1024, .f32⟩
  | 76 => ⟨S128x4x1024, .f32⟩
  | 77 => ⟨S512x1024, .f32⟩
  | 78 => ⟨S1x128x8x64x128, .f32⟩
  | _ => ⟨S512x4096, .f32⟩

abbrev hbmTy (i : Nat) : BufTy := match i / 128 with
  | 0 => hbmTy0_0 i
  | 1 => hbmTy0_1 i
  | _ => ⟨S512x4096, .f32⟩

abbrev bufTy : (tb : Table) → Fin (tcTables nBuf tb) → BufTy
  | .hbm, ⟨i, _⟩ => hbmTy i
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_1 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_2 : Ref sig .tc := ⟨.hbm, 55, rfl⟩
abbrev main_v48 : Ref sig .tc := ⟨.hbm, 56, rfl⟩
abbrev main_v49 : Ref sig .tc := ⟨.hbm, 57, rfl⟩
abbrev main_cst_3 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_cst_4 : Ref sig .tc := ⟨.hbm, 91, rfl⟩
abbrev main_v82 : Ref sig .tc := ⟨.hbm, 92, rfl⟩
abbrev main_v83 : Ref sig .tc := ⟨.hbm, 93, rfl⟩
abbrev main_cst_5 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_cst_6 : Ref sig .tc := ⟨.hbm, 106, rfl⟩
abbrev main_v95 : Ref sig .tc := ⟨.hbm, 107, rfl⟩
abbrev main_v96 : Ref sig .tc := ⟨.hbm, 108, rfl⟩
abbrev main_cst_7 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_cst_8 : Ref sig .tc := ⟨.hbm, 118, rfl⟩
abbrev main_call0_v0 : Ref sig .tc := ⟨.hbm, 119, rfl⟩
abbrev main_call0_v1 : Ref sig .tc := ⟨.hbm, 120, rfl⟩
abbrev main_call0_v2 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_cst_9 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_cst_10 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_cst_11 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_cst_12 : Ref sig .tc := ⟨.hbm, 168, rfl⟩
abbrev main_v148 : Ref sig .tc := ⟨.hbm, 169, rfl⟩
abbrev main_v149 : Ref sig .tc := ⟨.hbm, 170, rfl⟩
abbrev main_cst_13 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_cst_14 : Ref sig .tc := ⟨.hbm, 177, rfl⟩
abbrev main_v155 : Ref sig .tc := ⟨.hbm, 178, rfl⟩
abbrev main_v156 : Ref sig .tc := ⟨.hbm, 179, rfl⟩
abbrev main_cst_15 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_cst_16 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_call1_v0 : Ref sig .tc := ⟨.hbm, 195, rfl⟩
abbrev main_call1_v1 : Ref sig .tc := ⟨.hbm, 196, rfl⟩
abbrev main_call1_cst : Ref sig .tc := ⟨.hbm, 197, rfl⟩
abbrev main_call1_v2 : Ref sig .tc := ⟨.hbm, 198, rfl⟩
abbrev main_call1_v3 : Ref sig .tc := ⟨.hbm, 199, rfl⟩
abbrev main_call1_cst_0 : Ref sig .tc := ⟨.hbm, 200, rfl⟩
abbrev main_call1_v4 : Ref sig .tc := ⟨.hbm, 201, rfl⟩
abbrev main_call1_v5 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩

abbrev nD : Nat := 1
abbrev τ : Topo := Topo.v7x

variable {F : FTy → Type} [FloatOps F]
-- ==== Kernel10.lean ====
abbrev S512x3584 : Shape := ⟨2, ![512, 3584]⟩
abbrev S1x128x128x4x64 : Shape := ⟨5, ![1, 128, 128, 4, 64]⟩
abbrev S8x128x128 : Shape := ⟨3, ![8, 128, 128]⟩
abbrev S8x128 : Shape := ⟨2, ![8, 128]⟩
abbrev S16 : Shape := ⟨1, ![16]⟩
abbrev S128x4x3584 : Shape := ⟨3, ![128, 4, 3584]⟩
abbrev S_ : Shape := ⟨0, ![]⟩
abbrev S128x8x3584 : Shape := ⟨3, ![128, 8, 3584]⟩
abbrev S8x4x4 : Shape := ⟨3, ![8, 4, 4]⟩
abbrev S4x4 : Shape := ⟨2, ![4, 4]⟩
abbrev S4x4x8 : Shape := ⟨3, ![4, 4, 8]⟩
abbrev S4x8x8 : Shape := ⟨3, ![4, 8, 8]⟩
abbrev S4x8x8x128 : Shape := ⟨4, ![4, 8, 8, 128]⟩
abbrev S4x8x1024 : Shape := ⟨3, ![4, 8, 1024]⟩
abbrev S8x4 : Shape := ⟨2, ![8, 4]⟩
abbrev S4x8 : Shape := ⟨2, ![4, 8]⟩
abbrev S8x8 : Shape := ⟨2, ![8, 8]⟩
abbrev S8x8x128 : Shape := ⟨3, ![8, 8, 128]⟩
abbrev S8x1024 : Shape := ⟨2, ![8, 1024]⟩
abbrev S128x128x4x64 : Shape := ⟨4, ![128, 128, 4, 64]⟩
abbrev S128x128x256 : Shape := ⟨3, ![128, 128, 256]⟩
abbrev S128x8x2048 : Shape := ⟨3, ![128, 8, 2048]⟩
abbrev S128x8x1024 : Shape := ⟨3, ![128, 8, 1024]⟩
abbrev S8x8x1024 : Shape := ⟨3, ![8, 8, 1024]⟩
abbrev S8x8x512 : Shape := ⟨3, ![8, 8, 512]⟩
abbrev S8x128x256 : Shape := ⟨3, ![8, 128, 256]⟩
abbrev S8x8x2048 : Shape := ⟨3, ![8, 8, 2048]⟩
abbrev S128x128 : Shape := ⟨2, ![128, 128]⟩
abbrev S128x1 : Shape := ⟨2, ![128, 1]⟩
abbrev S1 : Shape := ⟨1, ![1]⟩
abbrev S8x256 : Shape := ⟨2, ![8, 256]⟩
abbrev S1x8x1024 : Shape := ⟨3, ![1, 8, 1024]⟩
abbrev S1x1024 : Shape := ⟨2, ![1, 1024]⟩
abbrev S1x8x512 : Shape := ⟨3, ![1, 8, 512]⟩
abbrev S8x512 : Shape := ⟨2, ![8, 512]⟩
abbrev S8x64 : Shape := ⟨2, ![8, 64]⟩
abbrev S128x256 : Shape := ⟨2, ![128, 256]⟩
abbrev S1x128x256 : Shape := ⟨3, ![1, 128, 256]⟩
abbrev S1x256 : Shape := ⟨2, ![1, 256]⟩
abbrev S128 : Shape := ⟨1, ![128]⟩
abbrev S128x4x1024 : Shape := ⟨3, ![128, 4, 1024]⟩
abbrev S1x128x4x8x128 : Shape := ⟨5, ![1, 128, 4, 8, 128]⟩

abbrev nBuf : Space → Nat
  | .hbm => 42
  | .vmem => 18
  | .smem => 1
  | _ => 0

abbrev bufTy : (tb : Table) → Fin (tcTables nBuf tb) → BufTy
  | .hbm, ⟨0, _⟩ => ⟨S512x3584, .f32⟩
  | .hbm, ⟨1, _⟩ => ⟨S1x128x128x4x64, .f32⟩
  | .hbm, ⟨2, _⟩ => ⟨S1x128x128x4x64, .f32⟩
  | .hbm, ⟨3, _⟩ => ⟨S8x128x128, .f32⟩
  | .hbm, ⟨4, _⟩ => ⟨S8x128, .f32⟩
  | .hbm, ⟨5, _⟩ => ⟨S16, .f32⟩
  | .hbm, ⟨6, _⟩ => ⟨S128x4x3584, .f32⟩
  | .hbm, ⟨7, _⟩ => ⟨S_, .i32⟩
  | .hbm, ⟨8, _⟩ => ⟨S_, .f32⟩
  | .hbm, ⟨9, _⟩ => ⟨S128x8x3584, .f32⟩
  | .hbm, ⟨10, _⟩ => ⟨S8x4x4, .f32⟩
  | .hbm, ⟨11, _⟩ => ⟨S4x4, .i32⟩
  | .hbm, ⟨12, _⟩ => ⟨S_, .i32⟩
  | .hbm, ⟨13, _⟩ => ⟨S4x4, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S8x4x4, .i1⟩
  | .hbm, ⟨18, _⟩ => ⟨S_, .f32⟩
  | .hbm, ⟨19, _⟩ => ⟨S8x4x4, .f32⟩
  | .hbm, ⟨20, _⟩ => ⟨S8x4x4, .f32⟩
  | .hbm, ⟨21, _⟩ => ⟨S4x4x8, .f32⟩
  | .hbm, ⟨22, _⟩ => ⟨S_, .i32⟩
  | .hbm, ⟨23, _⟩ => ⟨S_, .f32⟩
  | .hbm, ⟨24, _⟩ => ⟨S4x8x8, .f32⟩
  | .hbm, ⟨25, _⟩ => ⟨S4x8x8x128, .f32⟩
  | .hbm, ⟨26, _⟩ => ⟨S4x8x1024, .f32⟩
  | .hbm, ⟨27, _⟩ => ⟨S8x4, .f32⟩
  | .hbm, ⟨28, _⟩ => ⟨S4x8, .f32⟩
  | .hbm, ⟨29, _⟩ => ⟨S_, .i32⟩
  | .hbm, ⟨30, _⟩ => ⟨S_, .f32⟩
  | .hbm, ⟨31, _⟩ => ⟨S8x8, .f32⟩
  | .hbm, ⟨32, _⟩ => ⟨S8x8x128, .f32⟩
  | .hbm, ⟨33, _⟩ => ⟨S8x1024, .f32⟩
  | .hbm, ⟨34, _⟩ => ⟨S128x128x4x64, .f32⟩
  | .hbm, ⟨35, _⟩ => ⟨S128x128x256, .f32⟩
  | .hbm, ⟨36, _⟩ => ⟨S128x128x4x64, .f32⟩
  | .hbm, ⟨37, _⟩ => ⟨S128x128x256, .f32⟩
  | .hbm, ⟨38, _⟩ => ⟨S128x8x2048, .f32⟩
  | .hbm, ⟨39, _⟩ => ⟨S128x8x1024, .f32⟩
  | .hbm, ⟨40, _⟩ => ⟨S128x4x1024, .f32⟩
  | .hbm, ⟨41, _⟩ => ⟨S1x128x4x8x128, .f32⟩
  | .local _ .vmem, ⟨0, _⟩ => ⟨S8x8x1024, .f32⟩
  | .local _ .vmem, ⟨1, _⟩ => ⟨S8x8x1024, .f32⟩
  | .local _ .vmem, ⟨2, _⟩ => ⟨S8x8x1024, .f32⟩
  | .local _ .vmem, ⟨3, _⟩ => ⟨S8x8x1024, .f32⟩
  | .local _ .vmem, ⟨4, _⟩ => ⟨S8x8x1024, .f32⟩
  | .local _ .vmem, ⟨5, _⟩ => ⟨S8x8x1024, .f32⟩
  | .local _ .vmem, ⟨6, _⟩ => ⟨S8x8x512, .f32⟩
  | .local _ .vmem, ⟨7, _⟩ => ⟨S8x8x512, .f32⟩
  | .local _ .vmem, ⟨8, _⟩ => ⟨S8x128x256, .f32⟩
  | .local _ .vmem, ⟨9, _⟩ => ⟨S8x128x256, .f32⟩
  | .local _ .vmem, ⟨10, _⟩ => ⟨S8x128x256, .f32⟩
  | .local _ .vmem, ⟨11, _⟩ => ⟨S8x128x256, .f32⟩
  | .local _ .vmem, ⟨12, _⟩ => ⟨S4x8x1024, .f32⟩
  | .local _ .vmem, ⟨13, _⟩ => ⟨S8x1024, .f32⟩
  | .local _ .vmem, ⟨14, _⟩ => ⟨S8x8x2048, .f32⟩
  | .local _ .vmem, ⟨15, _⟩ => ⟨S8x8x2048, .f32⟩
  | .local _ .vmem, ⟨16, _⟩ => ⟨S8x8x1024, .f32⟩
  | .local _ .vmem, ⟨17, _⟩ => ⟨S8x8x1024, .f32⟩
  | .local _ .smem, ⟨0, _⟩ => ⟨S16, .f32⟩
  | _, _ => ⟨S512x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_call1_v0 : Ref sig .tc := ⟨.hbm, 11, rfl⟩
abbrev main_call1_c : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_cst : Ref sig .tc := ⟨.hbm, 18, rfl⟩
abbrev main_call1_v6 : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_call2_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_call3_v0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17_0 : Ref sig .tc := ⟨.hbm, 38, rfl⟩
abbrev main_v17_1 : Ref sig .tc := ⟨.hbm, 39, rfl⟩
abbrev main_v18 : Ref sig .tc := ⟨.hbm, 40, rfl⟩
abbrev main_v19 : Ref sig .tc := ⟨.hbm, 41, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  ![arg0.toNat, c0_i32.toNat, c6_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x8x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S512x3584 : Shape := ⟨2, ![512, 3584]⟩
abbrev S1x128x128x4x64 : Shape := ⟨5, ![1, 128, 128, 4, 64]⟩
abbrev S8x128x128 : Shape := ⟨3, ![8, 128, 128]⟩
abbrev S8x128 : Shape := ⟨2, ![8, 128]⟩
abbrev S16 : Shape := ⟨1, ![16]⟩
abbrev S128x4x3584 : Shape := ⟨3, ![128, 4, 3584]⟩
abbrev S128x4x1024 : Shape := ⟨3, ![128, 4, 1024]⟩
abbrev S128x4x256 : Shape := ⟨3, ![128, 4, 256]⟩
abbrev S_ : Shape := ⟨0, ![]⟩
abbrev S128x4x8x128 : Shape := ⟨4, ![128, 4, 8, 128]⟩
abbrev S1x128x4x8x128 : Shape := ⟨5, ![1, 128, 4, 8, 128]⟩

abbrev nBuf : Space → Nat
  | .hbm => 23
  | .vmem => 0
  | .smem => 0
  | _ => 0

abbrev bufTy : (tb : Table) → Fin (tcTables nBuf tb) → BufTy
  | .hbm, ⟨0, _⟩ => ⟨S512x3584, .f32⟩
  | .hbm, ⟨1, _⟩ => ⟨S1x128x128x4x64, .f32⟩
  | .hbm, ⟨2, _⟩ => ⟨S1x128x128x4x64, .f32⟩
  | .hbm, ⟨3, _⟩ => ⟨S8x128x128, .f32⟩
  | .hbm, ⟨4, _⟩ => ⟨S8x128, .f32⟩
  | .hbm, ⟨5, _⟩ => ⟨S16, .f32⟩
  | .hbm, ⟨6, _⟩ => ⟨S128x4x3584, .f32⟩
  | .hbm, ⟨7, _⟩ => ⟨S128x4x1024, .f32⟩
  | .hbm, ⟨8, _⟩ => ⟨S128x4x1024, .f32⟩
  | .hbm, ⟨9, _⟩ => ⟨S128x4x1024, .f32⟩
  | .hbm, ⟨10, _⟩ => ⟨S128x4x256, .f32⟩
  | .hbm, ⟨11, _⟩ => ⟨S128x4x256, .f32⟩
  | .hbm, ⟨12, _⟩ => ⟨S_, .f32⟩
  | .hbm, ⟨13, _⟩ => ⟨S128x4x1024, .f32⟩
  | .hbm, ⟨14, _⟩ => ⟨S128x4x1024, .f32⟩
  | .hbm, ⟨15, _⟩ => ⟨S128x4x1024, .f32⟩
  | .hbm, ⟨16, _⟩ => ⟨S_, .f32⟩
  | .hbm, ⟨17, _⟩ => ⟨S128x4x1024, .f32⟩
  | .hbm, ⟨18, _⟩ => ⟨S128x4x1024, .f32⟩
  | .hbm, ⟨19, _⟩ => ⟨S128x4x1024, .f32⟩
  | .hbm, ⟨20, _⟩ => ⟨S128x4x1024, .f32⟩
  | .hbm, ⟨21, _⟩ => ⟨S128x4x8x128, .f32⟩
  | .hbm, ⟨22, _⟩ => ⟨S1x128x4x8x128, .f32⟩
  | _, _ => ⟨S512x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Proof.EvenSpec.lean ====
/- The first layer's mixing at one row, as formulas over numbers: the gated unit of one chunk, and one query's attention
   over a window of 256 keys with a sink.  Masked keys carry the score `⊥`; at such a key the value does not matter. -/
module

public import Idealize.ShloMosaic.Lib.Pointwise
public import Idealize.ShloMosaic.PureOps.Ideal.Laws

@[expose] public section

noncomputable section

open Idealize.ShloMosaic

namespace Cert.Even

/-- The Gaussian error linear unit. -/
def gelu (x : EReal) : EReal :=
  Ideal.ofBits .f32 0x3F000000#32 * x * (Ideal.ofBits .f32 0x3F800000#32 + Ideal.erf (x * Ideal.ofBits .f32 0x3F3504F3#32))

/-- Spatial gating at one position: the gate `u` times the mix of the column `v` of a chunk with the weights `w` up to and
    including row `i`, plus the bias. -/
def gate (u : EReal) (v w : Fin 128 → EReal) (b : EReal) (i : Fin 128) : EReal :=
  gelu u * (∑ j : Fin 128, (if j.val ≤ i.val then w j else 0) * gelu (v j) + b)

/-- The largest of the scores and of the sink's. -/
def top (s : Fin 256 → EReal) (sk : EReal) : EReal :=
  max (Finset.fold max (Ideal.ofBits .f32 0xFF800000#32) s Finset.univ) sk

/-- What the weights are divided by. -/
def den (s : Fin 256 → EReal) (sk : EReal) : EReal :=
  ∑ m, Ideal.exp (s m - top s sk) + Ideal.exp (sk - top s sk)

/-- Softmax of the scores beside the sink, times the values. -/
def att (s : Fin 256 → EReal) (sk : EReal) (v : Fin 256 → EReal) : EReal :=
  ∑ m, Ideal.div (Ideal.exp (s m - top s sk)) (den s sk) * v m

/-- Key `m` of the window is visible from row `r` of block `b`: not after it, less than 128 before it, not before the start. -/
def visible (b r m : ℕ) : Prop := (r < m ∧ m ≤ r + 128) ∧ (128 ≤ m ∨ 0 < b)

instance (b r m : ℕ) : Decidable (visible b r m) := by unfold visible; infer_instance

/-- The scores of the query `q` against the keys `k` of the window. -/
def score (vis : Fin 256 → Prop) [DecidablePred vis] (q : Fin 64 → EReal) (k : Fin 256 → Fin 64 → EReal) (m : Fin 256) : EReal :=
  if vis m then (∑ e, q e * k m e) * Ideal.ofBits .f32 0x3E000000#32 else ⊥

theorem ofBits_bot : Ideal.ofBits .f32 0xFF800000#32 = ⊥ := by simp [Ideal.ofBits, Ideal.ieee]

theorem ofBits_eighth : Ideal.ofBits .f32 0x3E000000#32 = ((1 / 8 : ℝ) : EReal) := by
  simp [Ideal.ofBits, Ideal.ieee]
  norm_num
  rw [← EReal.coe_mul]
  norm_num

theorem coe_sum {n : ℕ} (f : Fin n → ℝ) : ((∑ e, f e : ℝ) : EReal) = ∑ e, (f e : EReal) :=
  map_sum (⟨⟨fun x : ℝ => (x : EReal), EReal.coe_zero⟩, EReal.coe_add⟩ : ℝ →+ EReal) f Finset.univ

/-- A visible score of real queries and keys is real; a masked one is `⊥`: none is `⊤`. -/
theorem score_ne_top (vis : Fin 256 → Prop) [DecidablePred vis] (q : Fin 64 → EReal) (k : Fin 256 → Fin 64 → EReal) (m : Fin 256)
    (hq : ∀ e, ∃ r : ℝ, q e = r) (hk : vis m → ∀ e, ∃ r : ℝ, k m e = r) : score vis q k m ≠ ⊤ := by
  unfold score
  split_ifs with h
  · choose a ha using hq
    choose b hb using hk h
    have hs : (∑ e, q e * k m e) = ((∑ e, a e * b e : ℝ) : EReal) := by
      rw [coe_sum]; exact Finset.sum_congr rfl fun e _ => by rw [ha, hb, EReal.coe_mul]
    rw [hs, ofBits_eighth, ← EReal.coe_mul]
    exact EReal.coe_ne_top _
  · exact bot_ne_top

/-- With no score `⊤` and a real sink, the largest is real. -/
theorem top_real (s : Fin 256 → EReal) (sk : EReal) (hs : ∀ m, s m ≠ ⊤) (hk : ∃ r : ℝ, sk = r) : ∃ r : ℝ, top s sk = r := by
  obtain ⟨r, rfl⟩ := hk
  have h1 : top s r ≠ ⊤ := by
    refine (max_lt ?_ (EReal.coe_lt_top r)).ne
    rw [Finset.fold_max_lt]
    exact ⟨by rw [ofBits_bot]; exact bot_lt_top, fun m _ => (hs m).lt_top⟩
  have h2 : top s r ≠ ⊥ := fun h => EReal.coe_ne_bot r (le_bot_iff.mp (h ▸ le_max_right _ _))
  exact ⟨(top s r).toReal, (EReal.coe_toReal h1 h2).symm⟩

theorem exp_nonneg (x : EReal) : 0 ≤ Ideal.exp x := by
  induction x with
  | bot => simp
  | coe r => simpa using (Real.exp_pos r).le
  | top => simp

theorem den_ne_zero (s : Fin 256 → EReal) (sk : EReal) (hs : ∀ m, s m ≠ ⊤) (hk : ∃ r : ℝ, sk = r) : den s sk ≠ 0 := by
  obtain ⟨t, ht⟩ := top_real s sk hs hk
  obtain ⟨r, rfl⟩ := hk
  have h1 : 0 < Ideal.exp ((r : EReal) - top s r) := by
    rw [ht, ← EReal.coe_sub, Ideal.exp_coe]; exact_mod_cast Real.exp_pos _
  have h0 : 0 ≤ ∑ m, Ideal.exp (s m - top s r) := Finset.sum_nonneg fun m _ => exp_nonneg _
  exact (h1.trans_le (le_add_of_nonneg_left h0)).ne'

/-- The attention does not read the values of masked keys. -/
theorem att_congr (s : Fin 256 → EReal) (sk : EReal) (v v' : Fin 256 → EReal) (hs : ∀ m, s m ≠ ⊤) (hk : ∃ r : ℝ, sk = r)
    (hv : ∀ m, s m = ⊥ ∨ v m = v' m) : att s sk v = att s sk v' := by
  refine Finset.sum_congr rfl fun m _ => ?_
  rcases hv m with h | h
  · have hd : Ideal.div (Ideal.exp (s m - top s sk)) (den s sk) = 0 := by
      rw [h, EReal.bot_sub, Ideal.exp_bot, Ideal.div, if_neg (den_ne_zero s sk hs hk), zero_mul]
    rw [hd, zero_mul, zero_mul]
  · rw [h]

/-- The scores do not read masked keys. -/
theorem score_congr (vis : Fin 256 → Prop) [DecidablePred vis] (q : Fin 64 → EReal) (k k' : Fin 256 → Fin 64 → EReal)
    (hk : ∀ m, vis m → ∀ e, k m e = k' m e) : score vis q k = score vis q k' := by
  funext m
  unfold score
  split_ifs with h
  · rw [Finset.sum_congr rfl fun e _ => by rw [hk m h e]]
  · rfl

end Cert.Even

end
-- ==== Proof.EvenMask.lean ====
/- The integer arithmetic of the first layer's kernel: which head a stacked row belongs to, and which keys it sees. -/
module

public import proofs.«01_k».proof.Proof.Gen.KernelIdeal.Value
public import proofs.«01_k».proof.Proof.EvenSpec
public import Idealize.ShloMosaic.Lib.Pipeline.ValueKit
public import Idealize.ShloMosaic.Lib.Pointwise

@[expose] public section

set_option maxRecDepth 16384

noncomputable section

open Idealize.ShloMosaic

namespace Cert.KernelIdeal.RefValue
open Cert.KernelIdeal Cert.KernelIdeal.Gen

/-- The remainder by 128, with its sign corrected, of a row number. -/
theorem row_rem : ∀ R : Fin 512, Scalar.select
                (IntOp.andi
                  (IntOp.xori
                    (IntOp.cmpi CmpIPredicate.slt
                      (IntOp.remsi ArithUnit.vector (BitVec.ofNat 32 R.val)
                        (Scalar.select (Scalar.cmpi CmpIPredicate.eq 128#32 0#32) 1#32 128#32))
                      0#32)
                    (Scalar.cmpi CmpIPredicate.slt
                      (Scalar.select (Scalar.cmpi CmpIPredicate.eq 128#32 0#32) 1#32 128#32) 0#32))
                  (IntOp.cmpi CmpIPredicate.ne
                    (IntOp.remsi ArithUnit.vector (BitVec.ofNat 32 R.val)
                      (Scalar.select (Scalar.cmpi CmpIPredicate.eq 128#32 0#32) 1#32 128#32))
                    0#32))
                (IntOp.addi
                  (IntOp.remsi ArithUnit.vector (BitVec.ofNat 32 R.val)
                    (Scalar.select (Scalar.cmpi CmpIPredicate.eq 128#32 0#32) 1#32 128#32))
                  (Scalar.select (Scalar.cmpi CmpIPredicate.eq 128#32 0#32) 1#32 128#32))
                (IntOp.remsi ArithUnit.vector (BitVec.ofNat 32 R.val)
                  (Scalar.select (Scalar.cmpi CmpIPredicate.eq 128#32 0#32) 1#32 128#32))
    = BitVec.ofNat 32 (R.val % 128) := by decide +kernel

/-- The distance of row `r` from key `m` lies in the window. -/
theorem window_bit : ∀ (r : Fin 128) (m : Fin 256),
    IntOp.andi (IntOp.cmpi .sge (IntOp.subi (IntOp.addi (BitVec.ofNat 32 r.val) 128#32) (BitVec.ofNat 32 m.val)) 0#32)
      (IntOp.cmpi .slt (IntOp.subi (IntOp.addi (BitVec.ofNat 32 r.val) 128#32) (BitVec.ofNat 32 m.val)) 128#32)
      = if r.val < m.val ∧ m.val ≤ r.val + 128 then 1#1 else 0#1 := by decide +kernel

theorem own_bit : ∀ m : Fin 256, IntOp.cmpi .sge (BitVec.ofNat 32 m.val) 128#32 = if 128 ≤ m.val then 1#1 else 0#1 := by
  decide +kernel

theorem later_bit : ∀ b : Fin 64, Scalar.cmpi .sgt (BitVec.ofNat 32 b.val) 0#32 = if 0 < b.val then 1#1 else 0#1 := by
  decide +kernel

/-- The mask of block `b` at a stacked row and a key. -/
theorem mask_at (b : Fin 64) (i : S512x256.Idx) :
    k0_pay15 (BitVec.ofNat 32 b.val) i = if Cert.Even.visible b.val ((i 0).val % 128) (i 1).val then 1#1 else 0#1 := by
  pointwise [k0_pay15]
  rw [row_rem (i 0), window_bit ⟨(i 0).val % 128, Nat.mod_lt _ (by decide)⟩ (i 1), own_bit (i 1), later_bit b]
  unfold Cert.Even.visible
  by_cases h1 : (i 0).val % 128 < (i 1).val ∧ (i 1).val ≤ (i 0).val % 128 + 128 <;> by_cases h2 : 128 ≤ (i 1).val <;>
    by_cases h3 : 0 < b.val <;> simp only [h1, h2, h3, if_true, if_false, true_and, false_and, true_or, or_true, or_false] <;> rfl

/-- The head number of a stacked row. -/
theorem row_head : ∀ R : Fin 512, k0_pay20 (ix2 R 0) = BitVec.ofNat 32 (R.val / 128) := by decide +kernel

end Cert.KernelIdeal.RefValue

end
-- ==== Proof.EvenScore.lean ====
/- The masked scores of the first layer's kernel: the four query heads of a key head, stacked, against the window of keys
   (the block before above the own block). -/
module

public import proofs.«01_k».proof.Proof.EvenMask

@[expose] public section

set_option maxRecDepth 16384

noncomputable section

open Idealize.ShloMosaic

namespace Cert.KernelIdeal.RefValue
open Cert.KernelIdeal Cert.KernelIdeal.Gen Cert.Even

/-- Two reads at indices with equal coordinates. -/
theorem read_eq {n p : ℕ} (x : (⟨2, ![n, p]⟩ : Shape).Idx → EReal) {a a' : Fin n} {c c' : Fin p} (h : a.val = a'.val)
    (h' : c.val = c'.val) : x (ix2 a c) = x (ix2 a' c') := by
  obtain rfl := Fin.ext h
  obtain rfl := Fin.ext h'
  rfl

/-- Row `m` of the window: the block before for the first 128 rows, the own block for the others. -/
def win (kvc kvp : Vec Ideal S128x512 .f32) (m : Fin 256) (c : Fin 512) : EReal :=
  if h : m.val < 128 then kvp (ix2 ⟨m.val, h⟩ c) else kvc (ix2 ⟨m.val - 128, by omega⟩ c)

theorem win_at (kvc kvp : Vec Ideal S128x512 .f32) (m : Fin 256) {c : ℕ} (c' : ℕ) (hc : c < 512) (hc' : c' < 512) (h : c' = c) :
    (if h : m.val < 128 then kvp (ix2 ⟨m.val, h⟩ ⟨c', hc'⟩) else kvc (ix2 ⟨m.val - 128, by omega⟩ ⟨c', hc'⟩)) = win kvc kvp m ⟨c, hc⟩ := by
  subst h
  rfl

/-- The scores of stacked row `R` of key head `k`. -/
def rowScore (b : ℕ) (q : Vec Ideal S128x1024 .f32) (kvc kvp : Vec Ideal S128x512 .f32) (k : ℕ) (hk : k < 4) (R : Fin 512) :
    Fin 256 → EReal :=
  score (fun m => visible b (R.val % 128) m.val)
    (fun e => q (ix2 ⟨R.val % 128, Nat.mod_lt _ (by decide)⟩ ⟨(4 * k + R.val / 128) * 64 + e.val, by omega⟩))
    (fun m e => win kvc kvp m ⟨64 * k + e.val, by omega⟩)

theorem mask_named : (Named.named κ "mask" 0xF149F2CA#32 : Ideal .f32) = ⊥ := rfl

/-- A select on the mask's bit is the masked score. -/
theorem select_score (b : Fin 64) (i : S512x256.Idx) (a : EReal) :
    Scalar.select (k0_pay15 (BitVec.ofNat 32 b.val) i) a (Named.named κ "mask" 0xF149F2CA#32 : Ideal .f32)
      = if visible b.val ((i 0).val % 128) (i 1).val then a else ⊥ := by
  rw [mask_at, mask_named]
  split_ifs <;> rfl

variable (b : Fin 64) (q : Vec Ideal S128x1024 .f32) (kvc kvp : Vec Ideal S128x512 .f32) (i : S512x256.Idx)

theorem score0 : k0_pay19 (F := Ideal) (k0_pay15 (BitVec.ofNat 32 b.val)) (k0_pay16 kvc kvp) (k0_pay18 q)
    (constant S512x256 .f32 0x00000000#32) i = rowScore b.val q kvc kvp 0 (by decide) (i 0) (i 1) := by
  pointwise [k0_pay19, k0_pay16, k0_pay18]
  rw [select_score]
  unfold rowScore score
  refine if_congr Iff.rfl (congrArg (· * _) (Finset.sum_congr rfl fun e _ => congrArg₂ (· * ·) ?_ ?_)) rfl
  · split_ifs <;> exact read_eq q (by dsimp only; omega) (by dsimp only; omega)
  · exact win_at kvc kvp (i 1) (e.val) (by omega) (by omega) (by omega)

theorem score1 : k0_pay29 (F := Ideal) q kvc kvp (k0_pay15 (BitVec.ofNat 32 b.val)) i
    = rowScore b.val q kvc kvp 1 (by decide) (i 0) (i 1) := by
  pointwise [k0_pay29]
  rw [select_score]
  unfold rowScore score
  refine if_congr Iff.rfl (congrArg (· * _) (Finset.sum_congr rfl fun e _ => congrArg₂ (· * ·) ?_ ?_)) rfl
  · split_ifs <;> exact read_eq q (by dsimp only; omega) (by dsimp only; omega)
  · exact win_at kvc kvp (i 1) (64 + e.val) (by omega) (by omega) (by omega)

theorem score2 : k0_pay40 (F := Ideal) q kvc kvp (k0_pay15 (BitVec.ofNat 32 b.val)) i
    = rowScore b.val q kvc kvp 2 (by decide) (i 0) (i 1) := by
  pointwise [k0_pay40]
  rw [select_score]
  unfold rowScore score
  refine if_congr Iff.rfl (congrArg (· * _) (Finset.sum_congr rfl fun e _ => congrArg₂ (· * ·) ?_ ?_)) rfl
  · split_ifs <;> exact read_eq q (by dsimp only; omega) (by dsimp only; omega)
  · exact win_at kvc kvp (i 1) (128 + e.val) (by omega) (by omega) (by omega)

theorem score3 : k0_pay55 (F := Ideal) (k0_pay15 (BitVec.ofNat 32 b.val)) (k0_pay49 kvc kvp) (k0_pay51 q) (k0_pay52 q) (k0_pay53 q)
    (k0_pay54 q) i = rowScore b.val q kvc kvp 3 (by decide) (i 0) (i 1) := by
  pointwise [k0_pay55, k0_pay49, k0_pay51, k0_pay52, k0_pay53, k0_pay54]
  rw [select_score]
  unfold rowScore score
  refine if_congr Iff.rfl (congrArg (· * _) (Finset.sum_congr rfl fun e _ => congrArg₂ (· * ·) ?_ ?_)) rfl
  · split_ifs <;> exact read_eq q (by dsimp only; omega) (by dsimp only; omega)
  · exact win_at kvc kvp (i 1) (192 + e.val) (by omega) (by omega) (by omega)

end Cert.KernelIdeal.RefValue

end
-- ==== Proof.EvenHeads.lean ====
/- Attention of the four key heads -/
module

public import proofs.«01_k».proof.Proof.EvenMask

@[expose] public section

set_option maxRecDepth 16384

noncomputable section

open Idealize.ShloMosaic

namespace Cert.KernelIdeal.RefValue
open Cert.KernelIdeal Cert.KernelIdeal.Gen Cert.Even

/-- The sink of a stacked row: chosen among four by the row's head. -/
def pick (R : Fin 512) (s0 s1 s2 s3 : EReal) : EReal :=
  Scalar.select (IntOp.cmpi .eq (k0_pay20 (ix2 R 0)) 0#32) s0
    (Scalar.select (IntOp.cmpi .eq (k0_pay20 (ix2 R 0)) 1#32) s1
      (Scalar.select (IntOp.cmpi .eq (k0_pay20 (ix2 R 0)) 2#32) s2 s3))

theorem pick_eq (S : Fin 16 → EReal) (k : Fin 4) (R : Fin 512) :
    pick R (S ⟨4 * k.val, by omega⟩) (S ⟨4 * k.val + 1, by omega⟩) (S ⟨4 * k.val + 2, by omega⟩) (S ⟨4 * k.val + 3, by omega⟩)
      = S ⟨4 * k.val + R.val / 128, by omega⟩ := by
  unfold pick
  rw [row_head R]
  have h : ∀ g : ℕ, (hg : g < 4) → Scalar.select (IntOp.cmpi .eq (BitVec.ofNat 32 g) 0#32) (S ⟨4 * k.val, by omega⟩)
      (Scalar.select (IntOp.cmpi .eq (BitVec.ofNat 32 g) 1#32) (S ⟨4 * k.val + 1, by omega⟩)
        (Scalar.select (IntOp.cmpi .eq (BitVec.ofNat 32 g) 2#32) (S ⟨4 * k.val + 2, by omega⟩) (S ⟨4 * k.val + 3, by omega⟩)))
      = S ⟨4 * k.val + g, by omega⟩ := by
    intro g hg
    interval_cases g <;> rfl
  exact h _ (by omega)

/-- The four groups' outputs at a stacked row. -/
theorem out0 (V : FVec Ideal S256x64 .bf16) (s : FVec Ideal S512x256 .f32) (s0 s1 s2 s3 : EReal) (i : S512x64.Idx) :
    k0_pay23 (F := Ideal) V s (k0_pay21 (F := Ideal) s3 s2 s1) k0_pay22 s0 i
      = att (fun m => s (ix2 (i 0) m)) (pick (i 0) s0 s1 s2 s3) (fun m => V (ix2 m (i 1))) := by
  unfold att den top pick
  pointwise [k0_pay23, k0_pay21, k0_pay22]

theorem out1 (V : FVec Ideal S256x64 .bf16) (s : FVec Ideal S512x256 .f32) (s0 s1 s2 s3 : EReal) (i : S512x64.Idx) :
    k0_pay34 (F := Ideal) V (k0_pay33 (F := Ideal) s (iota Kind.tc S512x1 32 [0] iota_S512x1_d0_w32) 128#32 k0_pay30 k0_pay31 k0_pay32
      s3 s2 s1 s0) i
      = att (fun m => s (ix2 (i 0) m)) (pick (i 0) s0 s1 s2 s3) (fun m => V (ix2 m (i 1))) := by
  unfold att den top pick
  pointwise [k0_pay34, k0_pay33, k0_pay30, k0_pay31, k0_pay32, k0_pay20]

theorem out2 (V : FVec Ideal S256x64 .bf16) (s : FVec Ideal S512x256 .f32) (s0 s1 s2 s3 : EReal) (i : S512x64.Idx) :
    k0_pay44 (F := Ideal) V s k0_pay41 k0_pay42 k0_pay43 s3 s2 s1 s0 i
      = att (fun m => s (ix2 (i 0) m)) (pick (i 0) s0 s1 s2 s3) (fun m => V (ix2 m (i 1))) := by
  unfold att den top pick
  pointwise [k0_pay44, k0_pay41, k0_pay42, k0_pay43, k0_pay20]

theorem out3 (V : FVec Ideal S256x64 .bf16) (s : FVec Ideal S512x256 .f32) (s0 s1 s2 s3 : EReal) (i : S512x64.Idx) :
    k0_pay1 (F := Ideal) V s k0_pay56 (k0_pay57 (F := Ideal) s3 s2 s1) 0#32 s0 i
      = att (fun m => s (ix2 (i 0) m)) (pick (i 0) s0 s1 s2 s3) (fun m => V (ix2 m (i 1))) := by
  unfold att den top pick
  pointwise [k0_pay1, k0_pay56, k0_pay57, k0_pay20]

end Cert.KernelIdeal.RefValue

end
-- ==== Proof.EvenAttn.lean ====
/- The attention half of one output block of the first layer's kernel: the sixteen heads side by side. -/
module

public import proofs.«01_k».proof.Proof.EvenScore
public import proofs.«01_k».proof.Proof.EvenHeads

@[expose] public section

set_option maxRecDepth 16384

noncomputable section

open Idealize.ShloMosaic

namespace Cert.KernelIdeal.RefValue
open Cert.KernelIdeal Cert.KernelIdeal.Gen Cert.Even

/-- The attention at row `r` of block `b` and output column `c`: head `c / 64`, key head `c / 256`. -/
def headOut (b : ℕ) (S : Fin 16 → EReal) (q : Vec Ideal S128x1024 .f32) (kvc kvp : Vec Ideal S128x512 .f32) (r : Fin 128)
    (c : Fin 1024) : EReal :=
  att (score (fun m => visible b r.val m.val) (fun e => q (ix2 r ⟨c.val / 64 * 64 + e.val, by omega⟩))
      (fun m e => win kvc kvp m ⟨64 * (c.val / 256) + e.val, by omega⟩))
    (S ⟨c.val / 64, by omega⟩) (fun m => win kvc kvp m ⟨256 + 64 * (c.val / 256) + c.val % 64, by omega⟩)

/-- The output of key head `k` at stacked row `R` and lane `d`. -/
def group (b : ℕ) (S : Fin 16 → EReal) (q : Vec Ideal S128x1024 .f32) (kvc kvp : Vec Ideal S128x512 .f32) (k : ℕ) (hk : k < 4)
    (R : Fin 512) (d : Fin 64) : EReal :=
  att (rowScore b q kvc kvp k hk R) (S ⟨4 * k + R.val / 128, by omega⟩)
    (fun m => win kvc kvp m ⟨256 + 64 * k + d.val, by omega⟩)

theorem coord_lt (k : ℕ) (i : Fin 64) (h : k ≤ 448 := by decide) : k + i.val < 512 := by omega

/-- A stacked row of a key head is a row of one of its heads. -/
theorem group_eq (b : ℕ) (S : Fin 16 → EReal) (q : Vec Ideal S128x1024 .f32) (kvc kvp : Vec Ideal S128x512 .f32) (k : ℕ) (hk : k < 4)
    (R : Fin 512) (d : Fin 64) (r : Fin 128) (c : Fin 1024) (hr : r.val = R.val % 128)
    (hc : c.val = (4 * k + R.val / 128) * 64 + d.val) :
    group b S q kvc kvp k hk R d = headOut b S q kvc kvp r c := by
  obtain ⟨r, _⟩ := r
  obtain ⟨c, _⟩ := c
  dsimp only at hr hc
  subst hr hc
  have h1 : ((4 * k + R.val / 128) * 64 + d.val) / 64 = 4 * k + R.val / 128 := by omega
  have h2 : ((4 * k + R.val / 128) * 64 + d.val) / 256 = k := by omega
  have h3 : ((4 * k + R.val / 128) * 64 + d.val) % 64 = d.val := by omega
  unfold group headOut rowScore
  simp only [h1, h2, h3]

variable (b : Fin 64) (S : Fin 16 → EReal) (q : Vec Ideal S128x1024 .f32) (kvc kvp : Vec Ideal S128x512 .f32) (i : S512x64.Idx)

theorem group0 : k0_pay23 (F := Ideal) (k0_pay17 kvc kvp) (k0_pay19 (k0_pay15 (BitVec.ofNat 32 b.val)) (k0_pay16 kvc kvp) (k0_pay18 q)
      (constant S512x256 .f32 0x00000000#32)) (k0_pay21 (F := Ideal) (S 3) (S 2) (S 1)) k0_pay22 (S 0) i
    = group b.val S q kvc kvp 0 (by decide) (i 0) (i 1) := by
  rw [out0, show (fun m => k0_pay19 (F := Ideal) (k0_pay15 (BitVec.ofNat 32 b.val)) (k0_pay16 kvc kvp) (k0_pay18 q)
      (constant S512x256 .f32 0x00000000#32) (ix2 (i 0) m)) = rowScore b.val q kvc kvp 0 (by decide) (i 0) from
    funext fun m => score0 b q kvc kvp (ix2 (i 0) m)]
  refine congrArg₂ (att _) (pick_eq S 0 (i 0)) (funext fun m => ?_)
  pointwise [k0_pay17]
  exact win_at kvc kvp m (256 + (i 1).val) (coord_lt _ _) (coord_lt _ _) (by omega)

theorem group1 : k0_pay34 (F := Ideal) (k0_pay28 kvc kvp) (k0_pay33 (F := Ideal) (k0_pay29 q kvc kvp (k0_pay15 (BitVec.ofNat 32 b.val)))
      (iota Kind.tc S512x1 32 [0] iota_S512x1_d0_w32) 128#32 k0_pay30 k0_pay31 k0_pay32 (S 7) (S 6) (S 5) (S 4)) i
    = group b.val S q kvc kvp 1 (by decide) (i 0) (i 1) := by
  rw [out1, show (fun m => k0_pay29 (F := Ideal) q kvc kvp (k0_pay15 (BitVec.ofNat 32 b.val)) (ix2 (i 0) m))
      = rowScore b.val q kvc kvp 1 (by decide) (i 0) from funext fun m => score1 b q kvc kvp (ix2 (i 0) m)]
  refine congrArg₂ (att _) (pick_eq S 1 (i 0)) (funext fun m => ?_)
  pointwise [k0_pay28]
  exact win_at kvc kvp m (320 + (i 1).val) (coord_lt _ _) (coord_lt _ _) (by omega)

theorem group2 : k0_pay44 (F := Ideal) (k0_pay39 kvc kvp) (k0_pay40 q kvc kvp (k0_pay15 (BitVec.ofNat 32 b.val))) k0_pay41 k0_pay42
      k0_pay43 (S 11) (S 10) (S 9) (S 8) i
    = group b.val S q kvc kvp 2 (by decide) (i 0) (i 1) := by
  rw [out2, show (fun m => k0_pay40 (F := Ideal) q kvc kvp (k0_pay15 (BitVec.ofNat 32 b.val)) (ix2 (i 0) m))
      = rowScore b.val q kvc kvp 2 (by decide) (i 0) from funext fun m => score2 b q kvc kvp (ix2 (i 0) m)]
  refine congrArg₂ (att _) (pick_eq S 2 (i 0)) (funext fun m => ?_)
  pointwise [k0_pay39]
  exact win_at kvc kvp m (384 + (i 1).val) (coord_lt _ _) (coord_lt _ _) (by omega)

theorem group3 : k0_pay1 (F := Ideal) (k0_pay50 kvc kvp) (k0_pay55 (k0_pay15 (BitVec.ofNat 32 b.val)) (k0_pay49 kvc kvp) (k0_pay51 q)
      (k0_pay52 q) (k0_pay53 q) (k0_pay54 q)) k0_pay56 (k0_pay57 (F := Ideal) (S 15) (S 14) (S 13)) 0#32 (S 12) i
    = group b.val S q kvc kvp 3 (by decide) (i 0) (i 1) := by
  rw [out3, show (fun m => k0_pay55 (F := Ideal) (k0_pay15 (BitVec.ofNat 32 b.val)) (k0_pay49 kvc kvp) (k0_pay51 q) (k0_pay52 q)
      (k0_pay53 q) (k0_pay54 q) (ix2 (i 0) m)) = rowScore b.val q kvc kvp 3 (by decide) (i 0) from
    funext fun m => score3 b q kvc kvp (ix2 (i 0) m)]
  refine congrArg₂ (att _) (pick_eq S 3 (i 0)) (funext fun m => ?_)
  pointwise [k0_pay50]
  exact win_at kvc kvp m (448 + (i 1).val) (coord_lt _ _) (coord_lt _ _) (by omega)

/-- Head `n` as the block of 64 columns it is stored in. -/
def headPiece (b : ℕ) (S : Fin 16 → EReal) (q : Vec Ideal S128x1024 .f32) (kvc kvp : Vec Ideal S128x512 .f32) (n : Fin 16) :
    S128x64.Idx → EReal := fun i =>
  headOut b S q kvc kvp (i 0) ⟨64 * n.val + (i 1).val, by have h : (i 1).val < 64 := (i 1).isLt; omega⟩

/-- The rows `128 * j …` of a key head's output are one head. -/
theorem slice_piece (b : ℕ) (k : ℕ) (hk : k < 4) (j : ℕ) (hj : j < 4) {o : S512x64.Idx → EReal}
    (ho : ∀ i, o i = group b S q kvc kvp k hk (i 0) (i 1)) (hs : S512x64.Slices ![128 * j, 0] S128x64) :
    extractStridedSlice S128x64 ![128 * j, 0] o hs = headPiece b S q kvc kvp ⟨4 * k + j, by omega⟩ := by
  funext i
  have l0 : (i 0).val < 128 := (i 0).isLt
  have l1 : (i 1).val < 64 := (i 1).isLt
  refine (ho _).trans (group_eq b S q kvc kvp k hk _ _ _ _ ?_ ?_)
  · show (i 0).val = (128 * j + (i 0).val) % 128
    omega
  · show 64 * (4 * k + j) + (i 1).val = (4 * k + (128 * j + (i 0).val) / 128) * 64 + (0 + (i 1).val)
    omega

/-- Sixteen blocks side by side. -/
theorem side_by_side (f : Fin 16 → S128x64.Idx → EReal)
    (h : Shape.Concatenates ((List.ofFn fun n : Fin 16 => (⟨S128x64, f n⟩ : (s : Shape) × (s.Idx → EReal))).map (·.1)) S128x1024 1)
    (x : S128x1024.Idx) :
    concatenate S128x1024 1 (List.ofFn fun n : Fin 16 => (⟨S128x64, f n⟩ : (s : Shape) × (s.Idx → EReal))) h x
      = f ⟨(x 1).val / 64, by have h : (x 1).val < 1024 := (x 1).isLt; omega⟩ (ix2 (x 0) ⟨(x 1).val % 64, Nat.mod_lt _ (by decide)⟩) := by
  refine concatenate_ofFn_apply (t := S128x1024) (s₁ := S128x64) 1 f h rfl 64 rfl x _ rfl _ rfl fun c hc => ?_
  match c, hc with
  | 0, _ => rfl
  | 1, hc => exact absurd rfl hc

/-- What is stored in the right half: head `c / 64` at column `c`. -/
theorem heads_at {p0 p1 p2 p3 p4 p5 p6 p7 p8 p9 p10 p11 : S128x64.Idx → EReal} {o : S512x64.Idx → EReal} (b : ℕ)
    (h0 : p0 = headPiece b S q kvc kvp 0) (h1 : p1 = headPiece b S q kvc kvp 1) (h2 : p2 = headPiece b S q kvc kvp 2)
    (h3 : p3 = headPiece b S q kvc kvp 3) (h4 : p4 = headPiece b S q kvc kvp 4) (h5 : p5 = headPiece b S q kvc kvp 5)
    (h6 : p6 = headPiece b S q kvc kvp 6) (h7 : p7 = headPiece b S q kvc kvp 7) (h8 : p8 = headPiece b S q kvc kvp 8)
    (h9 : p9 = headPiece b S q kvc kvp 9) (h10 : p10 = headPiece b S q kvc kvp 10) (h11 : p11 = headPiece b S q kvc kvp 11)
    (ho : ∀ i, o i = group b S q kvc kvp 3 (by decide) (i 0) (i 1)) (x : S128x1024.Idx) :
    k0_pay2 (F := Ideal) p0 p1 p2 p3 p4 p5 p6 p7 p8 p9 p10 p11 o x = headOut b S q kvc kvp (x 0) (x 1) := by
  subst h0 h1 h2 h3 h4 h5 h6 h7 h8 h9 h10 h11
  unfold k0_pay2
  rw [show extractStridedSlice S128x64 ![0, 0] o slices_S512x64_o0_0_S128x64 = headPiece b S q kvc kvp 12 from
      slice_piece S q kvc kvp b 3 (by decide) 0 (by decide) ho slices_S512x64_o0_0_S128x64,
    show extractStridedSlice S128x64 ![128, 0] o slices_S512x64_o128_0_S128x64 = headPiece b S q kvc kvp 13 from
      slice_piece S q kvc kvp b 3 (by decide) 1 (by decide) ho slices_S512x64_o128_0_S128x64,
    show extractStridedSlice S128x64 ![256, 0] o slices_S512x64_o256_0_S128x64 = headPiece b S q kvc kvp 14 from
      slice_piece S q kvc kvp b 3 (by decide) 2 (by decide) ho slices_S512x64_o256_0_S128x64,
    show extractStridedSlice S128x64 ![384, 0] o slices_S512x64_o384_0_S128x64 = headPiece b S q kvc kvp 15 from
      slice_piece S q kvc kvp b 3 (by decide) 3 (by decide) ho slices_S512x64_o384_0_S128x64]
  refine (side_by_side (headPiece b S q kvc kvp) concatenates_S128x64_S128x64_S128x64_S128x64_S128x64_S128x64_S128x64_S128x64_S128x64_S128x64_S128x64_S128x64_S128x64_S128x64_S128x64_S128x64_S128x1024_d1 x).trans ?_
  unfold headPiece
  exact congrArg (headOut b S q kvc kvp (x 0)) (Fin.ext (Nat.div_add_mod _ 64))

end Cert.KernelIdeal.RefValue

end
-- ==== Proof.EvenGate.lean ====
/- The gated half of one output block of the first layer's kernel: eight groups of 128 channels. -/
module

public import proofs.«01_k».proof.Proof.EvenSpec
public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic

namespace Cert.KernelIdeal.RefValue
open Cert.KernelIdeal Cert.KernelIdeal.Gen Cert.Even

/-- The lower triangle as a mask. -/
theorem lower (a c : Fin 128) : k0_pay5 (ix2 a c) = if c.val ≤ a.val then 1#1 else 0#1 := by
  revert a c
  decide +kernel

/-- A kernel's gate in the form of the specification: the mask selects weights, and every factor has a name. -/
theorem gate_form {u b : EReal} {v w : Fin 128 → EReal} {i : Fin 128} {g : Fin 128 → EReal} {m : Fin 128 → BitVec 1}
    (hm : ∀ j, m j = if j.val ≤ i.val then 1#1 else 0#1) (hg : ∀ j, g j = gelu (v j)) :
    gelu u * (∑ j, Scalar.select (m j) (w j * g j) 0 + b) = gate u v w b i := by
  unfold gate
  refine congrArg (fun t => gelu u * (t + b)) (Finset.sum_congr rfl fun j _ => ?_)
  rw [hm, hg]
  split_ifs
  · rfl
  · exact (zero_mul _).symm

theorem gelu_one (y : EReal) : Ideal.ofBits .f32 0x3F000000#32 * y * (1 + FloatOps.erf (F := Ideal) (φ := .f32) (y * Ideal.ofBits .f32 0x3F3504F3#32))
    = gelu y := by
  unfold gelu
  rw [show (Ideal.ofBits .f32 0x3F800000#32 : EReal) = 1 by pointwise []]
  rfl

end Cert.KernelIdeal.RefValue

end
-- ==== Proof.EvenTile.lean ====
/- What the first layer's kernel leaves in one output block: gated channels in the left half, attention in the right half. -/
module

public import proofs.«01_k».proof.Proof.EvenAttn
public import proofs.«01_k».proof.Proof.EvenGate
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.RefValue
open Cert.KernelIdeal Cert.KernelIdeal.Gen Cert.Even

variable (m : (ℓ : Loc nD τ sig) → Buf (Elt Ideal) ℓ)

/-- The gated channel `c` at row `r` of a block: group `c / 128`. -/
def gateOut (au av : Vec Ideal S128x1024 .f32) (ws bs : Vec Ideal S8x128x128 .f32) (r : Fin 128) (c : Fin 1024) : EReal :=
  gate (au (ix2 r c)) (fun j => av (ix2 j c)) (fun j => ws (ix3 ⟨c.val / 128, by omega⟩ r j))
    (bs (ix3 ⟨c.val / 128, by omega⟩ r ⟨c.val % 128, Nat.mod_lt _ (by decide)⟩)) r

/-- A block's entry. -/
def tileOut (b : ℕ) (S : Fin 16 → EReal) (au av q : Vec Ideal S128x1024 .f32) (kvc kvp : Vec Ideal S128x512 .f32)
    (ws bs : Vec Ideal S8x128x128 .f32) (y : S128x2048.Idx) : EReal :=
  if h : (y 1).val < 1024 then gateOut au av ws bs (y 0) ⟨(y 1).val, h⟩
  else headOut b S q kvc kvp (y 0) ⟨(y 1).val - 1024, by have h : (y 1).val < 2048 := (y 1).isLt; omega⟩

/-- A gate written at other names of the same places. -/
theorem gate_piece (au av : Vec Ideal S128x1024 .f32) (ws bs : Vec Ideal S8x128x128 .f32) {g : Fin 8} {r r' d : Fin 128}
    {c c' : Fin 1024} (hr : r.val = r'.val) (hc : c.val = c'.val) (hg : g.val = c.val / 128) (hd : d.val = c.val % 128) :
    gate (au (ix2 r' c')) (fun j => av (ix2 j c')) (fun j => ws (ix3 g r' j)) (bs (ix3 g r' d)) r' = gateOut au av ws bs r c := by
  obtain rfl := Fin.ext hr
  obtain rfl := Fin.ext hc
  unfold gateOut
  rw [show (⟨c.val / 128, by omega⟩ : Fin 8) = g from Fin.ext hg.symm,
    show (⟨c.val % 128, Nat.mod_lt _ (by decide)⟩ : Fin 128) = d from Fin.ext hd.symm]

/-- One sink read from the sixteen. -/
theorem sink_ld (sink : Vec Ideal S16 .f32) (n : ℕ) (inb : ∀ a, (![n] : Fin 1 → ℕ) a + (![1] : Fin 1 → ℕ) a ≤ S16.size a) (h) :
    View.ld sink (Rect.unit (s := S16) ![n] ![1] inb) (Shape.Idx.first h) = sink (ix1 ⟨n, by have := inb 0; exact this⟩) := by
  pointwise []

/-- What one grid point leaves in its block. -/
theorem tile_at (c : Dev nD) (t : Fin cfg0.N) (y : S128x2048.Idx) :
    outsAt0 (F := Ideal) m c t y = tileOut t.val (fun n => iblk m c 0 t (ix1 n)) (X0_1 m c t) (X0_2 m c t) (X0_3 m c t)
      (iblk m c 4 t) (iblk m c 5 t) (iblk m c 6 t) (iblk m c 7 t) y := by
  have hb : ∀ t : Fin grid0.N, (grid0.coords t 0).val = t.val := by decide +kernel
  have ht : t.val < 64 := t.isLt
  unfold outsAt0
  frame_out
  generalize iblk m c 0 t = sink, X0_1 m c t = au, X0_2 m c t = av, X0_3 m c t = q, iblk m c 4 t = kvc, iblk m c 5 t = kvp, iblk m c 6 t = ws, iblk m c 7 t = bs
  rw [hb t]
  canon_tiles x h using View.cover_of_tiledBy _ ![128, 128] (by sl_kernel_rfl) y
  case _ =>
    have e : ∀ n inb h, View.ld sink (Rect.unit (s := S16) ![n] ![1] inb) (Shape.Idx.first h) = _ := sink_ld sink
    simp only [e]
    unfold tileOut
    rw [dif_neg (by omega)]
    refine (heads_at (fun n => sink (ix1 n)) q kvc kvp t.val
      (slice_piece _ q kvc kvp t.val 0 (by decide) 0 (by decide) (group0 ⟨t.val, ht⟩ (fun n => sink (ix1 n)) q kvc kvp) slices_S512x64_o0_0_S128x64)
      (slice_piece _ q kvc kvp t.val 0 (by decide) 1 (by decide) (group0 ⟨t.val, ht⟩ (fun n => sink (ix1 n)) q kvc kvp) slices_S512x64_o128_0_S128x64)
      (slice_piece _ q kvc kvp t.val 0 (by decide) 2 (by decide) (group0 ⟨t.val, ht⟩ (fun n => sink (ix1 n)) q kvc kvp) slices_S512x64_o256_0_S128x64)
      (slice_piece _ q kvc kvp t.val 0 (by decide) 3 (by decide) (group0 ⟨t.val, ht⟩ (fun n => sink (ix1 n)) q kvc kvp) slices_S512x64_o384_0_S128x64)
      (slice_piece _ q kvc kvp t.val 1 (by decide) 0 (by decide) (group1 ⟨t.val, ht⟩ (fun n => sink (ix1 n)) q kvc kvp) slices_S512x64_o0_0_S128x64)
      (slice_piece _ q kvc kvp t.val 1 (by decide) 1 (by decide) (group1 ⟨t.val, ht⟩ (fun n => sink (ix1 n)) q kvc kvp) slices_S512x64_o128_0_S128x64)
      (slice_piece _ q kvc kvp t.val 1 (by decide) 2 (by decide) (group1 ⟨t.val, ht⟩ (fun n => sink (ix1 n)) q kvc kvp) slices_S512x64_o256_0_S128x64)
      (slice_piece _ q kvc kvp t.val 1 (by decide) 3 (by decide) (group1 ⟨t.val, ht⟩ (fun n => sink (ix1 n)) q kvc kvp) slices_S512x64_o384_0_S128x64)
      (slice_piece _ q kvc kvp t.val 2 (by decide) 0 (by decide) (group2 ⟨t.val, ht⟩ (fun n => sink (ix1 n)) q kvc kvp) slices_S512x64_o0_0_S128x64)
      (slice_piece _ q kvc kvp t.val 2 (by decide) 1 (by decide) (group2 ⟨t.val, ht⟩ (fun n => sink (ix1 n)) q kvc kvp) slices_S512x64_o128_0_S128x64)
      (slice_piece _ q kvc kvp t.val 2 (by decide) 2 (by decide) (group2 ⟨t.val, ht⟩ (fun n => sink (ix1 n)) q kvc kvp) slices_S512x64_o256_0_S128x64)
      (slice_piece _ q kvc kvp t.val 2 (by decide) 3 (by decide) (group2 ⟨t.val, ht⟩ (fun n => sink (ix1 n)) q kvc kvp) slices_S512x64_o384_0_S128x64)
      (group3 ⟨t.val, ht⟩ (fun n => sink (ix1 n)) q kvc kvp) x).trans ?_
    exact congrArg₂ (headOut t.val (fun n => sink (ix1 n)) q kvc kvp) (Fin.ext h0.symm) (Fin.ext (by dsimp only; omega))
  all_goals
    pointwise [k0_pay3, k0_pay4, k0_pay6, k0_pay7, k0_pay8, k0_pay9, k0_pay10, k0_pay11, k0_pay12, k0_pay13, k0_pay14]
    simp only [gelu_one]
    unfold tileOut
    rw [dif_pos (by omega)]
    exact (gate_form (fun j => lower (x 0) j) fun j => rfl).trans
      (gate_piece au av ws bs h0 (by dsimp only; omega) (by dsimp only; omega) (by dsimp only; omega))

end Cert.KernelIdeal.RefValue

end
-- ==== Proof.EvenReads.lean ====
/- What the first layer's kernel reads at one grid point, as entries of the argument arrays. -/
module

public import proofs.«01_k».proof.Proof.EvenTile
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.RefValue
open Cert.KernelIdeal Cert.KernelIdeal.Gen Cert.Even

variable (m : (ℓ : Loc nD τ sig) → Buf (Elt Ideal) ℓ)

theorem idx : ∀ t : Fin cfg0.N, win0_0.index t = ![0] ∧ win0_1.index t = ![t.val, 0] ∧ win0_2.index t = ![t.val, 1]
    ∧ win0_3.index t = ![t.val, 2] ∧ win0_4.index t = ![t.val, 6] ∧ win0_5.index t = ![t.val - 1, 6]
    ∧ win0_6.index t = ![0, 0, 0] ∧ win0_7.index t = ![0, 0, 0] ∧ win0_8.index t = ![t.val, 0] :=
  (by decide +kernel : ∀ t : Fin grid0.N, _)

/-- The projections of the rows, as launched. -/
abbrev Z (c : Dev nD) : S8192x3584.Idx → EReal := m ((c : Thread nD τ).loc main_arg0)

/-- The gates. -/
theorem au_at (c : Dev nD) (t : Fin cfg0.N) (r : Fin 128) (j : Fin 1024) :
    X0_1 m c t (ix2 r j) = Z m c (ix2 ⟨t.val * 128 + r.val, by have : t.val < 64 := t.isLt; omega⟩ ⟨j.val, by omega⟩) := by
  have ht : t.val < 64 := t.isLt
  unfold X0_1 Pipeline.Window.fill
  rw [dif_pos (moved0_1 t _)]
  blk_point [iblk, V, idx t]

/-- What is gated. -/
theorem av_at (c : Dev nD) (t : Fin cfg0.N) (r : Fin 128) (j : Fin 1024) :
    X0_2 m c t (ix2 r j) = Z m c (ix2 ⟨t.val * 128 + r.val, by have : t.val < 64 := t.isLt; omega⟩ ⟨1024 + j.val, by omega⟩) := by
  have ht : t.val < 64 := t.isLt
  unfold X0_2 Pipeline.Window.fill
  rw [dif_pos (moved0_2 t _)]
  blk_point [iblk, V, idx t]

/-- The queries. -/
theorem q_at (c : Dev nD) (t : Fin cfg0.N) (r : Fin 128) (j : Fin 1024) :
    X0_3 m c t (ix2 r j) = Z m c (ix2 ⟨t.val * 128 + r.val, by have : t.val < 64 := t.isLt; omega⟩ ⟨2048 + j.val, by omega⟩) := by
  have ht : t.val < 64 := t.isLt
  unfold X0_3 Pipeline.Window.fill
  rw [dif_pos (moved0_3 t _)]
  blk_point [iblk, V, idx t]

/-- The keys and values of the block. -/
theorem kvc_at (c : Dev nD) (t : Fin cfg0.N) (r : Fin 128) (j : Fin 512) :
    iblk m c 4 t (ix2 r j) = Z m c (ix2 ⟨t.val * 128 + r.val, by have : t.val < 64 := t.isLt; omega⟩ ⟨3072 + j.val, by omega⟩) := by
  have ht : t.val < 64 := t.isLt
  blk_point [iblk, V, idx t]

/-- The keys and values of the block before it. -/
theorem kvp_at (c : Dev nD) (t : Fin cfg0.N) (r : Fin 128) (j : Fin 512) :
    iblk m c 5 t (ix2 r j) = Z m c (ix2 ⟨(t.val - 1) * 128 + r.val, by have : t.val < 64 := t.isLt; omega⟩ ⟨3072 + j.val, by omega⟩) := by
  have ht : t.val < 64 := t.isLt
  blk_point [iblk, V, idx t]

/-- The sinks. -/
theorem sink_at (c : Dev nD) (t : Fin cfg0.N) (n : Fin 16) : iblk m c 0 t (ix1 n) = m ((c : Thread nD τ).loc main_arg3) (ix1 n) := by
  have ht : t.val < 64 := t.isLt
  blk_point [iblk, V, idx t]

/-- The weights of the gating. -/
theorem ws_at (c : Dev nD) (t : Fin cfg0.N) (g : Fin 8) (r j : Fin 128) :
    iblk m c 6 t (ix3 g r j) = m ((c : Thread nD τ).loc main_arg1) (ix3 g r j) := by
  have ht : t.val < 64 := t.isLt
  blk_point [iblk, V, idx t]

/-- The biases, the same on all lanes. -/
theorem bs_at (c : Dev nD) (t : Fin cfg0.N) (g : Fin 8) (r j : Fin 128) :
    iblk m c 7 t (ix3 g r j) = m ((c : Thread nD τ).loc main_arg2) (ix2 g r) := by
  have ht : t.val < 64 := t.isLt
  blk_point [iblk, V, idx t]

end Cert.KernelIdeal.RefValue

end
-- ==== Proof.EvenRef.lean ====
/- The first layer's mixing as the reference writes it, read at one index. -/
module

public import proofs.«01_k».proof.Proof.Gen.ReferenceIdeal.Read
public import proofs.«01_k».proof.Proof.EvenSpec
public import Idealize.ShloMosaic.Lib.Pipeline.ValueKit
public import Idealize.ShloMosaic.Lib.Pointwise

@[expose] public section

set_option maxRecDepth 16384

noncomputable section

open Idealize.ShloMosaic

namespace Cert.ReferenceIdeal.RefValue
open Cert.ReferenceIdeal Cert.ReferenceIdeal.Read Cert.Even

variable (Z : FVec Ideal S8192x3584 .f32) (W : FVec Ideal S8x128x128 .f32) (B : FVec Ideal S8x128 .f32) (S : FVec Ideal S16 .f32)

/-- The reference's gelu, `y/2 * erfc (-y/√2)`, is the kernel's. -/
theorem gelu_erfc (y : EReal) : Ideal.ofBits .f32 0x3F000000#32 * y * Ideal.erfc (-y * Ideal.ofBits .f32 0x3F3504F3#32) = gelu y := by
  unfold gelu
  rw [EReal.neg_mul, Ideal.erfc_neg, show (Ideal.ofBits .f32 0x3F800000#32 : EReal) = 1 by pointwise []]

theorem gate_in (n : Fin 8192) (g : Fin 8) (d : Fin 128) : val_main_v13 (F := Ideal) Z (ix4 0 n g d)
    = gelu (Z (ix2 n ⟨g.val * 128 + d.val, by omega⟩)) := by
  pointwise [val_main_v13, val_main_v12, val_main_v11, val_main_v10, val_main_v9, val_main_v8, val_main_v7, val_main_v6, val_main_v1, val_main_v0, val_main_cst, val_main_cst_0]
  exact gelu_erfc _

theorem mix_in (b : Fin 64) (r : Fin 128) (g : Fin 8) (d : Fin 128) : val_main_v24 (F := Ideal) Z (ix5 0 b r g d)
    = gelu (Z (ix2 ⟨b.val * 128 + r.val, by omega⟩ ⟨1024 + (g.val * 128 + d.val), by omega⟩)) := by
  pointwise [val_main_v24, val_main_v21, val_main_v20, val_main_v19, val_main_v18, val_main_v17, val_main_v16, val_main_v15, val_main_v14, val_main_v2, val_main_v0, val_main_cst_1, val_main_cst_2]
  exact gelu_erfc _

theorem tril_bit : ∀ i j : Fin 128, IntOp.cmpi .sge (IntOp.addi (BitVec.ofNat 32 i.val) 0#32) (BitVec.ofNat 32 j.val)
    = if j.val ≤ i.val then 1#1 else 0#1 := by decide +kernel

theorem tril (g : Fin 8) (i j : Fin 128) : val_main_v25 (F := Ideal) W (ix3 g i j) = if j.val ≤ i.val then W (ix3 g i j) else 0 := by
  pointwise [val_main_v25, val_main_call0_v6, val_main_call0_cst, val_main_call0_v5, val_main_call0_v4, val_main_call0_v3, val_main_call0_v2, val_main_call0_v1, val_main_call0_c, val_main_call0_v0]
  rw [tril_bit]
  split_ifs <;> rfl

/-- The gated unit at row `r` of chunk `b`, channel `d` of group `g`. -/
theorem gate_at (b : Fin 64) (r : Fin 128) (g : Fin 8) (d : Fin 128) :
    val_main_v34 (F := Ideal) Z W B (ix4 0 ⟨b.val * 128 + r.val, by omega⟩ g d)
      = gate (Z (ix2 ⟨b.val * 128 + r.val, by omega⟩ ⟨g.val * 128 + d.val, by omega⟩))
          (fun j => Z (ix2 ⟨b.val * 128 + j.val, by omega⟩ ⟨1024 + (g.val * 128 + d.val), by omega⟩)) (fun j => W (ix3 g r j)) (B (ix2 g r)) r := by
  have e1 : (⟨(b.val * 128 + r.val) / 128, by omega⟩ : Fin 64) = b := Fin.ext (by dsimp only; omega)
  have e2 : (⟨(b.val * 128 + r.val) % 128, by omega⟩ : Fin 128) = r := Fin.ext (by dsimp only; omega)
  pointwise [val_main_v34, val_main_v33, val_main_v32, val_main_v27, val_main_v26, val_main_v31, val_main_v30, val_main_v29, val_main_v28]
  simp only [gate_in, mix_in, tril, e1, e2]
  unfold gate
  refine congrArg (fun t => gelu _ * (t + B (ix2 g r))) (Finset.sum_congr rfl fun j _ => mul_comm _ _)

theorem query (b : Fin 64) (r : Fin 128) (h g : Fin 4) (e : Fin 64) : val_main_v35 (F := Ideal) Z (ix6 0 b r h g e)
    = Z (ix2 ⟨b.val * 128 + r.val, by omega⟩ ⟨2048 + (h.val * 256 + g.val * 64 + e.val), by omega⟩) := by
  pointwise [val_main_v35, val_main_v3, val_main_v0]

/-- Row `m` of the window before and in block `b`; before the start it holds zeros. -/
def refWin (b : Fin 64) (m : Fin 256) (c : Fin 3584) : EReal :=
  if m.val < 128 then (if h : 1 ≤ b.val then Z (ix2 ⟨(b.val - 1) * 128 + m.val % 128, by omega⟩ c) else 0)
  else Z (ix2 ⟨b.val * 128 + m.val % 128, by omega⟩ c)

theorem zero_int : (Scalar.sitofp (F := Ideal) .f32 (0#32 : BitVec 32) : EReal) = 0 := by
  pointwise []
  simp

/-- A window joined from a padded and a plain copy of the blocks is `refWin`. -/
theorem window_form (b : Fin 64) (m : Fin 256) (c : ℕ) (hc : c < 3584) {x : EReal} (hx : x = 0) :
    (if h : m.val < 128 then
        (if h' : (1 ≤ b.val ∧ b.val - 1 < 63) ∧ m.val < 128 then Z (ix2 ⟨(b.val - 1) * 128 + m.val, by omega⟩ ⟨c, hc⟩) else x)
      else Z (ix2 ⟨b.val * 128 + (m.val - 128), by omega⟩ ⟨c, hc⟩)) = refWin Z b m ⟨c, hc⟩ := by
  unfold refWin
  split_ifs with h1 h2 h3 h3
  · exact congrArg (fun n : Fin 8192 => Z (ix2 n ⟨c, hc⟩)) (Fin.ext (by dsimp only; omega))
  · omega
  · omega
  · exact hx
  · exact congrArg (fun n : Fin 8192 => Z (ix2 n ⟨c, hc⟩)) (Fin.ext (by dsimp only; omega))

theorem keys (b : Fin 64) (m : Fin 256) (h : Fin 4) (e : Fin 64) : val_main_v40 (F := Ideal) Z (ix5 0 b m h e)
    = refWin Z b m ⟨3072 + (h.val * 64 + e.val), by omega⟩ := by
  pointwise [val_main_v40, val_main_v39, val_main_v38, val_main_v36, val_main_v22, val_main_v4, val_main_v0, val_main_call1_v0, val_main_c]
  exact window_form Z b m (3072 + (h.val * 64 + e.val)) (by omega) zero_int

theorem vals (b : Fin 64) (m : Fin 256) (h : Fin 4) (e : Fin 64) : val_main_v43 (F := Ideal) Z (ix5 0 b m h e)
    = refWin Z b m ⟨3328 + (h.val * 64 + e.val), by omega⟩ := by
  pointwise [val_main_v43, val_main_v42, val_main_v41, val_main_v37, val_main_v23, val_main_v5, val_main_v0, val_main_call2_v0, val_main_c_3]
  exact window_form Z b m (3328 + (h.val * 64 + e.val)) (by omega) zero_int

/-- The distance of two positions does not depend on the block. -/
theorem distance (x r m : BitVec 32) : IntOp.subi (IntOp.addi x r) (IntOp.addi (IntOp.subi x 128#32) m)
    = IntOp.subi (IntOp.addi r 128#32) m := by
  unfold IntOp.subi IntOp.addi
  bv_omega

theorem near_bit : ∀ (r : Fin 128) (m : Fin 256),
    IntOp.andi (IntOp.cmpi .sge (IntOp.subi (IntOp.addi (BitVec.ofNat 32 r.val) 128#32) (BitVec.ofNat 32 m.val)) 0#32)
      (IntOp.cmpi .slt (IntOp.subi (IntOp.addi (BitVec.ofNat 32 r.val) 128#32) (BitVec.ofNat 32 m.val)) 128#32)
      = if r.val < m.val ∧ m.val ≤ r.val + 128 then 1#1 else 0#1 := by decide +kernel

theorem start_bit : ∀ (b : Fin 64) (m : Fin 256), IntOp.cmpi .sge (IntOp.addi (IntOp.subi (IntOp.muli (BitVec.ofNat 32 b.val) 128#32) 128#32)
    (BitVec.ofNat 32 m.val)) 0#32 = if 128 ≤ m.val ∨ 0 < b.val then 1#1 else 0#1 := by decide +kernel

theorem mask (b : Fin 64) (r : Fin 128) (m : Fin 256) : val_main_v75 (F := Ideal) (ix6 0 b 0 0 r m)
    = if visible b.val r.val m.val then 1#1 else 0#1 := by
  pointwise [val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_c_4, val_main_c_5, val_main_c_6, val_main_c_7, val_main_c_8]
  rw [distance, near_bit, start_bit]
  unfold visible
  by_cases h1 : r.val < m.val ∧ m.val ≤ r.val + 128 <;> by_cases h2 : 128 ≤ m.val ∨ 0 < b.val <;>
    simp only [h1, h2, if_true, if_false, and_true, and_false, false_and] <;> rfl

/-- The masked scores of head `4 h + g` at row `r` of block `b`. -/
def refScore (b : Fin 64) (h g : Fin 4) (r : Fin 128) : Fin 256 → EReal :=
  score (fun m => visible b.val r.val m.val) (fun e => Z (ix2 ⟨b.val * 128 + r.val, by omega⟩ ⟨2048 + (h.val * 256 + g.val * 64 + e.val), by omega⟩))
    (fun m e => refWin Z b m ⟨3072 + (h.val * 64 + e.val), by omega⟩)

theorem scores (b : Fin 64) (h g : Fin 4) (r : Fin 128) (m : Fin 256) : val_main_v80 (F := Ideal) Z (ix6 0 b h g r m)
    = refScore Z b h g r m := by
  pointwise [val_main_v80, val_main_call3_v2, val_main_call3_v1, val_main_call3_v0, val_main_cst_10, val_main_v79, val_main_v78, val_main_v77, val_main_v76, val_main_cst_9]
  rw [mask]
  simp only [keys, query]
  unfold refScore score
  split_ifs
  · exact congrArg (· * _) (Finset.sum_congr rfl fun e _ => mul_comm _ _)
  · exact ofBits_bot

end Cert.ReferenceIdeal.RefValue

end
-- ==== Proof.EvenRefOut.lean ====
/- The reference's attention at one index, and its whole result. -/
module

public import proofs.«01_k».proof.Proof.Gen.ReferenceIdeal.Read
public import proofs.«01_k».proof.Proof.EvenRef
public import Idealize.ShloMosaic.Lib.Pipeline.ValueKit
public import Idealize.ShloMosaic.Lib.Pointwise

@[expose] public section

set_option maxRecDepth 16384

noncomputable section

open Idealize.ShloMosaic

namespace Cert.ReferenceIdeal.RefValue
open Cert.ReferenceIdeal Cert.ReferenceIdeal.Read Cert.Even

variable (Z : FVec Ideal S8192x3584 .f32) (W : FVec Ideal S8x128x128 .f32) (B : FVec Ideal S8x128 .f32) (S : FVec Ideal S16 .f32)

/-- The shapes of the reductions over the keys. -/
theorem overKeys : S1x64x4x4x128x256.Reduces [5] S1x64x4x4x128 := by decide

/-- The entry of a row at key `m`. -/
theorem lift_key (b : Fin 64) (h g : Fin 4) (r : Fin 128) (m : Fin 256) :
    overKeys.lift (ix5 0 b h g r) m = ix6 0 b h g r m := by
  funext a
  match a with
  | ⟨0, _⟩ => rfl
  | ⟨1, _⟩ => rfl
  | ⟨2, _⟩ => rfl
  | ⟨3, _⟩ => rfl
  | ⟨4, _⟩ => rfl
  | ⟨5, _⟩ => rfl

/-- The largest score of a row. -/
theorem row_max (b : Fin 64) (h g : Fin 4) (r : Fin 128) : val_main_v82 (F := Ideal) Z (ix5 0 b h g r)
    = Finset.fold max (Ideal.ofBits .f32 0xFF800000#32) (refScore Z b h g r) Finset.univ := by
  have e : ∀ v : S1x64x4x4x128x256.Idx → EReal, Finset.fold max (Ideal.ofBits .f32 0xFF800000#32) v
      (Finset.univ.filter fun i => Gen.reducesTo_S1x64x4x4x128x256_S1x64x4x4x128_d5.drop i = ix5 0 b h g r)
      = Finset.fold max (Ideal.ofBits .f32 0xFF800000#32) (fun m : Fin 256 => v (ix6 0 b h g r m)) Finset.univ := by
    intro v
    rw [Shape.ReducesTo.drop_eq_drop _ overKeys, overKeys.fold_filter_drop_single]
    exact congrArg (fun f => Finset.fold max _ f Finset.univ) (funext fun m => congrArg v (lift_key b h g r m))
  unfold val_main_v82
  generalize hv : val_main_v80 (F := Ideal) Z = v
  pointwise [val_main_cst_11]
  rw [e]
  simp only [← hv, scores]

/-- What is subtracted from the scores of a row. -/
theorem row_top (b : Fin 64) (h g : Fin 4) (r : Fin 128) : val_main_v86 (F := Ideal) Z S (ix6 0 b h g r 0)
    = top (refScore Z b h g r) (S (ix1 ⟨h.val * 4 + g.val, by omega⟩)) := by
  have e : val_main_v85 (F := Ideal) S (ix6 0 b h g r 0) = S (ix1 ⟨h.val * 4 + g.val, by omega⟩) := by
    pointwise [val_main_v85, val_main_v84, val_main_v81]
  have i : idx_main_v83 (ix6 0 b h g r 0) = ix5 0 b h g r := by
    funext a
    match a with
    | ⟨0, _⟩ => rfl
    | ⟨1, _⟩ => rfl
    | ⟨2, _⟩ => rfl
    | ⟨3, _⟩ => rfl
    | ⟨4, _⟩ => rfl
  rw [val_main_v86_apply, val_main_v83_apply, e, i, row_max]
  rfl

/-- An exponential of a row. -/
theorem row_exp (b : Fin 64) (h g : Fin 4) (r : Fin 128) (m : Fin 256) : val_main_v89 (F := Ideal) Z S (ix6 0 b h g r m)
    = Ideal.exp (refScore Z b h g r m - top (refScore Z b h g r) (S (ix1 ⟨h.val * 4 + g.val, by omega⟩))) := by
  rw [← row_top, ← scores]
  pointwise [val_main_v89, val_main_v88, val_main_v87]

/-- The sum of the exponentials of a row. -/
theorem row_sum (b : Fin 64) (h g : Fin 4) (r : Fin 128) : val_main_v90 (F := Ideal) Z S (ix5 0 b h g r)
    = ∑ m, Ideal.exp (refScore Z b h g r m - top (refScore Z b h g r) (S (ix1 ⟨h.val * 4 + g.val, by omega⟩))) := by
  have e : ∀ v : S1x64x4x4x128x256.Idx → EReal, Ideal.hostReduceAdd Gen.reducesTo_S1x64x4x4x128x256_S1x64x4x4x128_d5 v 0 (ix5 0 b h g r)
      = ∑ m : Fin 256, v (ix6 0 b h g r m) := by
    intro v
    rw [Ideal.hostReduceAdd_single _ overKeys, zero_add]
    exact Finset.sum_congr rfl fun m _ => congrArg v (lift_key b h g r m)
  unfold val_main_v90
  generalize hv : val_main_v89 (F := Ideal) Z S = v
  pointwise [val_main_cst_12]
  rw [e]
  simp only [← hv, row_exp]

/-- The attention weights of a row. -/
theorem weights (b : Fin 64) (h g : Fin 4) (r : Fin 128) (m : Fin 256) : val_main_v98 (F := Ideal) Z S (ix6 0 b h g r m)
    = Ideal.div (Ideal.exp (refScore Z b h g r m - top (refScore Z b h g r) (S (ix1 ⟨h.val * 4 + g.val, by omega⟩))))
        (den (refScore Z b h g r) (S (ix1 ⟨h.val * 4 + g.val, by omega⟩))) := by
  unfold den
  rw [← row_sum, ← row_exp, ← row_top]
  pointwise [val_main_v98, val_main_v97, val_main_v96, val_main_v95, val_main_v94, val_main_v93, val_main_v92, val_main_v91, val_main_v81]

/-- A row's attention. -/
theorem attended (b : Fin 64) (r : Fin 128) (h g : Fin 4) (e : Fin 64) : val_main_v100 (F := Ideal) Z S (ix6 0 b r h g e)
    = att (refScore Z b h g r) (S (ix1 ⟨h.val * 4 + g.val, by omega⟩)) (fun m => refWin Z b m ⟨3328 + (h.val * 64 + e.val), by omega⟩) := by
  pointwise [val_main_v100, val_main_v99]
  simp only [vals, weights]
  exact Finset.sum_congr rfl fun e _ => mul_comm _ _

/-- The attention at row `r` of block `b` and output column `c`. -/
def refHead (b : Fin 64) (r : Fin 128) (c : Fin 1024) : EReal :=
  att (refScore Z b ⟨c.val / 256, by omega⟩ ⟨c.val / 64 % 4, by omega⟩ r) (S (ix1 ⟨c.val / 256 * 4 + c.val / 64 % 4, by omega⟩))
    (fun m => refWin Z b m ⟨3328 + (c.val / 256 * 64 + c.val % 64), by omega⟩)

/-- The gated channel `c` at row `r` of block `b`. -/
def refGate (b : Fin 64) (r : Fin 128) (c : Fin 1024) : EReal :=
  gate (Z (ix2 ⟨b.val * 128 + r.val, by omega⟩ ⟨c.val, by omega⟩)) (fun j => Z (ix2 ⟨b.val * 128 + j.val, by omega⟩ ⟨1024 + c.val, by omega⟩))
    (fun j => W (ix3 ⟨c.val / 128, by omega⟩ r j)) (B (ix2 ⟨c.val / 128, by omega⟩ r)) r

/-- The whole result at row `r` of block `b`. -/
theorem result (b : Fin 64) (r : Fin 128) (n : Fin 2048) :
    val_main_v104 (F := Ideal) Z W B S (ix2 ⟨b.val * 128 + r.val, by omega⟩ n)
      = if h : n.val < 1024 then refGate Z W B b r ⟨n.val, h⟩ else refHead Z S b r ⟨n.val - 1024, by omega⟩ := by
  have e3 : ∀ h : n.val < 1024, n.val / 128 * 128 + n.val % 128 = n.val := fun _ => by omega
  pointwise [val_main_v104, val_main_v103, val_main_v102, val_main_v101]
  split_ifs with h
  · rw [gate_at]
    unfold refGate
    simp only [e3 h]
  all_goals
    simp only [attended]
    rfl

end Cert.ReferenceIdeal.RefValue

end
-- ==== Proof.Even.lean ====
/- The first layer's gating and attention: the kernel's array after the run is the reference's result, when the queries, the
   keys, the values and the sinks are finite. -/
module

public import proofs.«01_k».proof.Defs
public import proofs.«01_k».proof.Proof.EvenReads
public import proofs.«01_k».proof.Proof.EvenRefOut
public import proofs.«01_k».proof.Proof.Gen.KernelIdeal.Value
public import proofs.«01_k».proof.Proof.Gen.ReferenceIdeal.Run
public import proofs.«01_k».proof.Proof.Gen.Pre_finite
public import Idealize.ShloMosaic.Lib.ReduceAll
public import Idealize.ShloMosaic.Lib.Pipeline.ValueKit
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.KernelIdeal.RefValue
open Cert.KernelIdeal Cert.KernelIdeal.Gen Cert.Even

variable (m : (ℓ : Loc nD τ sig) → Buf (Elt Ideal) ℓ)

/-- The sinks, as launched. -/
abbrev S (c : Dev nD) : S16.Idx → EReal := m ((c : Thread nD τ).loc main_arg3)

/-- Two entries of the projections at equal places. -/
theorem Z_eq (c : Dev nD) {a a' : Fin 8192} {j j' : Fin 3584} (h : a.val = a'.val) (h' : j.val = j'.val) :
    Z m c (ix2 a j) = Z m c (ix2 a' j') := by
  obtain rfl := Fin.ext h
  obtain rfl := Fin.ext h'
  rfl

/-- At a visible key the kernel's window is the reference's. -/
theorem win_ref (c : Dev nD) (t : Fin cfg0.N) (r : Fin 128) (k : Fin 256) (j : Fin 512) (jr : Fin 3584)
    (h : visible t.val r.val k.val) (hj : jr.val = 3072 + j.val) :
    win (iblk m c 4 t) (iblk m c 5 t) k j = Cert.ReferenceIdeal.RefValue.refWin (Z m c) ⟨t.val, t.isLt⟩ k jr := by
  have ht : t.val < 64 := t.isLt
  unfold visible at h
  unfold win Cert.ReferenceIdeal.RefValue.refWin
  by_cases hk : k.val < 128
  · rw [dif_pos hk, if_pos hk, dif_pos (by show 1 ≤ t.val; omega), kvp_at]
    exact Z_eq m c (by dsimp only; omega) (by dsimp only; omega)
  · rw [dif_neg hk, if_neg hk, kvc_at]
    exact Z_eq m c (by dsimp only; omega) (by dsimp only; omega)

/-- One head's attention, in the kernel and in the reference. -/
theorem head_eq (c : Dev nD) (t : Fin cfg0.N) (r : Fin 128) (n : Fin 1024)
    (hz : ∀ (i : Fin 8192) (j : Fin 1280), ∃ x : ℝ, Z m c (ix2 i ⟨2048 + j.val, by omega⟩) = x)
    (hs : ∀ n : Fin 16, ∃ x : ℝ, S m c (ix1 n) = x) :
    headOut t.val (fun n => iblk m c 0 t (ix1 n)) (X0_3 m c t) (iblk m c 4 t) (iblk m c 5 t) r n
      = Cert.ReferenceIdeal.RefValue.refHead (Z m c) (S m c) ⟨t.val, t.isLt⟩ r n := by
  have ht : t.val < 64 := t.isLt
  have hn : n.val < 1024 := n.isLt
  have real : ∀ (i : Fin 8192) (j : Fin 3584), 2048 ≤ j.val → j.val < 3328 → ∃ x : ℝ, Z m c (ix2 i j) = x := fun i j h h' => by
    obtain ⟨x, hx⟩ := hz i ⟨j.val - 2048, by omega⟩
    exact ⟨x, (Z_eq m c rfl (by dsimp only; omega)).trans hx⟩
  have hq : ∀ e : Fin 64, ∃ x : ℝ, @Eq EReal (X0_3 m c t (ix2 r ⟨n.val / 64 * 64 + e.val, by omega⟩)) x := fun e => by
    rw [q_at]
    exact real _ _ (by dsimp only; omega) (by dsimp only; omega)
  have hk : ∀ k : Fin 256, visible t.val r.val k.val → ∀ e : Fin 64,
      ∃ x : ℝ, win (iblk m c 4 t) (iblk m c 5 t) k ⟨64 * (n.val / 256) + e.val, by omega⟩ = x := fun k _ e => by
    unfold win
    split_ifs with h
    · rw [kvp_at]
      exact real _ _ (by dsimp only; omega) (by dsimp only; omega)
    · rw [kvc_at]
      exact real _ _ (by dsimp only; omega) (by dsimp only; omega)
  have hS : ∃ x : ℝ, @Eq EReal (iblk m c 0 t (ix1 (⟨n.val / 64, by omega⟩ : Fin 16))) x := by
    rw [sink_at]
    exact hs _
  unfold headOut Cert.ReferenceIdeal.RefValue.refHead Cert.ReferenceIdeal.RefValue.refScore
  rw [att_congr _ _ _ (fun k => Cert.ReferenceIdeal.RefValue.refWin (Z m c) ⟨t.val, t.isLt⟩ k
      ⟨3328 + (n.val / 256 * 64 + n.val % 64), by omega⟩) (fun k => score_ne_top _ _ _ k hq (hk k)) hS ?_]
  · refine congrArg₂ (fun s x => att s x _) ?_ ?_
    · refine (score_congr _ _ _ (fun k e => Cert.ReferenceIdeal.RefValue.refWin (Z m c) ⟨t.val, t.isLt⟩ k
        ⟨3072 + (n.val / 256 * 64 + e.val), by omega⟩) fun k h e => win_ref m c t r k _ _ h (by dsimp only; omega)).trans ?_
      refine congrArg (fun q => score _ q _) (funext fun e => ?_)
      rw [q_at]
      exact Z_eq m c rfl (by dsimp only; omega)
    · rw [sink_at]
      exact congrArg (fun k => S m c (ix1 k)) (Fin.ext (by dsimp only; omega))
  · intro k
    by_cases h : visible t.val r.val k.val
    · exact Or.inr (win_ref m c t r k _ _ h (by dsimp only; omega))
    · exact Or.inl (if_neg h)

/-- A gated channel, in the kernel and in the reference. -/
theorem gate_eq (c : Dev nD) (t : Fin cfg0.N) (r : Fin 128) (n : Fin 1024) :
    gateOut (X0_1 m c t) (X0_2 m c t) (iblk m c 6 t) (iblk m c 7 t) r n
      = Cert.ReferenceIdeal.RefValue.refGate (Z m c) (m ((c : Thread nD τ).loc main_arg1)) (m ((c : Thread nD τ).loc main_arg2))
        ⟨t.val, t.isLt⟩ r n := by
  unfold gateOut Cert.ReferenceIdeal.RefValue.refGate
  simp only [au_at, av_at, ws_at, bs_at]

/-- The result array after the run is the reference's term. -/
theorem final (c : Dev nD)
    (hz : ∀ (i : Fin 8192) (j : Fin 1280), ∃ x : ℝ, Z m c (ix2 i ⟨2048 + j.val, by omega⟩) = x)
    (hs : ∀ n : Fin 16, ∃ x : ℝ, S m c (ix1 n) = x) : (dats m 0 c).arrAt 8 (cfgs 0).N
    = Cert.ReferenceIdeal.Read.val_main_v104 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  rw [tile_at]
  have ht : t.val < 64 := t.isLt
  have hy0 : (y 0).val < 128 := (y 0).isLt
  have hy1 : (y 1).val < 2048 := (y 1).isLt
  have h := Cert.ReferenceIdeal.RefValue.result (Z m c) (m ((c : Thread nD τ).loc main_arg1)) (m ((c : Thread nD τ).loc main_arg2))
    (S m c) ⟨t.val, ht⟩ ⟨(y 0).val, hy0⟩ ⟨(y 1).val, hy1⟩
  refine Eq.trans ?_ (h.symm.trans ?_)
  · unfold tileOut
    by_cases hy : (y 1).val < 1024
    · rw [dif_pos hy, dif_pos hy]
      exact gate_eq m c t _ _
    · rw [dif_neg hy, dif_neg hy]
      exact head_eq m c t _ _ hz hs
  · generalize Cert.ReferenceIdeal.Read.val_main_v104 (F := Ideal) _ _ _ _ = v
    blk_point [idx t]

/-- A number whose absolute value compares below infinity is real. -/
theorem real_of_abs (x : EReal) (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x with
  | bot => simp [Ideal.cmp] at h
  | coe r => exact ⟨r, rfl⟩
  | top => simp [Ideal.cmp] at h

/-- The precondition says that the queries, keys, values and sinks are finite. -/
theorem finite (hm : Cert.Pre_KernelIdeal_finite m) (c : Dev nD) :
    (∀ (i : Fin 8192) (j : Fin 1280), ∃ x : ℝ, Z m c (ix2 i ⟨2048 + j.val, by omega⟩) = x)
      ∧ ∀ n : Fin 16, ∃ x : ℝ, S m c (ix1 n) = x := by
  have : Subsingleton Cert.Pre_finite.S_.Idx := ⟨fun a b => funext fun k => k.elim0⟩
  obtain ⟨h1, h2⟩ := IntOp.andi_eq_one.1 (congrFun (hm c) fun k => k.elim0)
  refine ⟨fun i j => real_of_abs _ ?_, fun n => real_of_abs _ ?_⟩
  · have h := Host.reduce_andi_all _ _ _ _ _ h1 (ix2 i j)
    refine Eq.trans ?_ h
    pointwise []
    rfl
  · exact Host.reduce_andi_all _ _ _ _ _ h2 (ix1 n)

end Cert.KernelIdeal.RefValue

namespace Cert.Even

theorem algebraic1 : Cert.algebraic_KernelIdeal_ReferenceIdeal_pre_finite := by
  pair_intro
  · run_from Cert.KernelIdeal.Value.run_blocks m g
  · run_from Cert.ReferenceIdeal.Value.run m' g'
    obtain ⟨e0, e1, e2, e3⟩ := hagree c
    rw [Cert.ReferenceIdeal.Read.val_main_v104_eq m' c, e0, e1, e2, e3]
    exact (Cert.KernelIdeal.RefValue.final m c (Cert.KernelIdeal.RefValue.finite m hpre c).1 (Cert.KernelIdeal.RefValue.finite m hpre c).2).symm

end Cert.Even

end
-- ==== Proof.Rows.lean ====
/- The row formulas of the dense calls: a row scaled to unit mean square, and its product with a column. -/
module

public import Idealize.ShloMosaic.Lib.Pointwise

@[expose] public section

noncomputable section

open Idealize.ShloMosaic

namespace Cert.Rows

/-- Entry `k` of the row `x`, divided by the root of its mean square (the small constant inside the root) and times the
    gain `g k`. -/
def normed (x g : Fin 2048 → EReal) (k : Fin 2048) : EReal :=
  x k * Ideal.rsqrt (Ideal.div (∑ l, x l * x l) (Ideal.ofBits .f32 0x45000000#32)
    + Ideal.ofBits .f32 0x358637BD#32) * g k

/-- The normalised row times the column `w`. -/
def proj (x g w : Fin 2048 → EReal) : EReal := ∑ k, normed x g k * w k

end Cert.Rows

end
-- ==== Proof.Norm2.lean ====
/- The first layer's input projection (`Kernel2`): what one block of rows holds, and the array after the run. -/
module

public import proofs.«01_k».proof.Proof.Gen.Kernel2Ideal.Frame
public import proofs.«01_k».proof.Proof.Gen.Reference2Ideal.Read
public import proofs.«01_k».proof.Proof.Rows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

section
open Cert.Reference2Ideal Cert.Reference2Ideal.Read

/-- The reference at index `i`: the normalised row `i 0` times the column `i 1`. -/
theorem Cert.Reference2Ideal.RefValue.ref_at (X : FVec Ideal S8192x2048 .f32) (G : FVec Ideal S2048 .f32)
    (W : FVec Ideal S2048x3584 .f32) (i : S8192x3584.Idx) :
    val_main_v13 (F := Ideal) X G W i
      = Cert.Rows.proj (fun k => X (ix2 (i 0) k)) (fun k => G (ix1 k)) (fun k => W (ix2 k (i 1))) := by
  pointwise [val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1, Cert.Rows.proj, Cert.Rows.normed]

end

namespace Cert.Kernel2Ideal.RefValue
open Cert.Kernel2Ideal Cert.Kernel2Ideal.Gen

variable (m : (ℓ : Loc nD τ sig) → Buf (Elt Ideal) ℓ)

/-- What the body leaves at index `y` of its block. -/
theorem tile_at (x0 : Vec Ideal S512x2048 .f32) (x1 : Vec Ideal S2048x3584 .bf16) (x2 : Vec Ideal S1x2048 .f32)
    (y : S512x3584.Idx) :
    out0_3 (F := Ideal) x0 x1 x2 y
      = Cert.Rows.proj (fun k => x0 (ix2 (y 0) k)) (fun k => x2 (ix2 0 k)) (fun k => x1 (ix2 k (y 1))) := by
  unfold out0_3
  canon_tiles x h <;> (open_payloads; pointwise [Cert.Rows.proj, Cert.Rows.normed]; blk_point [h0, h1])

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The gain as the call reads it: one row. -/
theorem V_gain (c : Dev nD) : V m c main_v1
    = shapeCast S1x2048 (m ((c : Thread nD τ).loc main_arg1)) shapeCasts_S2048_S1x2048 := by
  simp only [V, V0, List.flatten_cons, List.flatten_nil, List.append_nil]
  after_results
  try rfl

/-- The weight as the call reads it: in the narrow format, over the extended reals itself. -/
theorem V_weight (c : Dev nD) : V m c main_v0
    = truncf (F := Ideal) .bf16 (m ((c : Thread nD τ).loc main_arg2)) bitsLt_bf16_f32 := by
  simp only [V, V0, List.flatten_cons, List.flatten_nil, List.append_nil]
  after_results
  try rfl

/-- The result array after the run is the reference's term. -/
theorem final (c : Dev nD) : (dats m 0 c).arrAt 3 (cfgs 0).N
    = Cert.Reference2Ideal.Read.val_main_v13 (F := Ideal) (m ((c : Thread nD τ).loc main_arg0))
      (m ((c : Thread nD τ).loc main_arg1)) (m ((c : Thread nD τ).loc main_arg2)) := by
  refine (dats m 0 c).arrAt_eq_of_covers 3 _ (by decide +kernel) fun t _ y => ?_
  blk_simp
  rw [after0_3]
  rw [tile_at, Cert.Reference2Ideal.RefValue.ref_at]
  refine congr (congr (congrArg Cert.Rows.proj (funext fun k => ?_)) (funext fun k => ?_)) (funext fun k => ?_)
  · blk_point [iblk, V, idx t]
  · blk_simp [iblk, idx t]
    rw [V_gain]
    pointwise
    blk_ext [idx t]
  · blk_simp [iblk, idx t]
    rw [V_weight]
    pointwise
    blk_ext [idx t]

/-- The projected array as the lines after the call read it. -/
theorem arr_read (c : Dev nD) : Pipeline.withArrays (τ := τ) spec0 c (V0 m c) (fun w => (dats m 0 c).arrAt w (cfgs 0).N)
      (Proc.devRef .tc main_v2)
    = Cert.Reference2Ideal.Read.val_main_v13 (F := Ideal) (m ((c : Thread nD τ).loc main_arg0))
      (m ((c : Thread nD τ).loc main_arg1)) (m ((c : Thread nD τ).loc main_arg2)) :=
  (Pipeline.withArrays_arr spec0 launch0.win.arr_inj c (V0 m c) _ 3).trans (final m c)

/-- The cached keys: columns 3072 to 3327 of the last 128 rows, as four heads. -/
theorem tail_k (c : Dev nD) : Pipeline.afterTail₀ cfgs (dats m) 0 (V0 m) [hostOps1] c main_v4
    = Cert.Reference2Ideal.Read.val_main_v23 (F := Ideal) (m ((c : Thread nD τ).loc main_arg0))
      (m ((c : Thread nD τ).loc main_arg1)) (m ((c : Thread nD τ).loc main_arg2)) := by
  unfold Pipeline.afterTail₀
  simp only [List.flatten_cons, List.flatten_nil, List.append_nil]
  after_results
  refine (congrArg (fun Z : FVec Ideal S8192x3584 .f32 => shapeCast S1x1x128x4x64
    (extractStridedSlice S128x256 ![8064, 3072] Z slices_S8192x3584_S128x256_8064_3072) shapeCasts_S128x256_S1x1x128x4x64)
    (arr_read m c)).trans ?_
  unfold Cert.Reference2Ideal.Read.val_main_v23 Cert.Reference2Ideal.Read.val_main_v22 Cert.Reference2Ideal.Read.val_main_v20 Cert.Reference2Ideal.Read.val_main_v18 Cert.Reference2Ideal.Read.val_main_v14
  generalize Cert.Reference2Ideal.Read.val_main_v13 (F := Ideal) _ _ _ = Z
  funext i
  pointwise

/-- The cached values: columns 3328 to 3583 of the last 128 rows, as four heads. -/
theorem tail_v (c : Dev nD) : Pipeline.afterTail₀ cfgs (dats m) 0 (V0 m) [hostOps1] c main_v6
    = Cert.Reference2Ideal.Read.val_main_v25 (F := Ideal) (m ((c : Thread nD τ).loc main_arg0))
      (m ((c : Thread nD τ).loc main_arg1)) (m ((c : Thread nD τ).loc main_arg2)) := by
  unfold Pipeline.afterTail₀
  simp only [List.flatten_cons, List.flatten_nil, List.append_nil]
  after_results
  refine (congrArg (fun Z : FVec Ideal S8192x3584 .f32 => shapeCast S1x1x128x4x64
    (extractStridedSlice S128x256 ![8064, 3328] Z slices_S8192x3584_S128x256_8064_3328) shapeCasts_S128x256_S1x1x128x4x64)
    (arr_read m c)).trans ?_
  unfold Cert.Reference2Ideal.Read.val_main_v25 Cert.Reference2Ideal.Read.val_main_v24 Cert.Reference2Ideal.Read.val_main_v21 Cert.Reference2Ideal.Read.val_main_v19 Cert.Reference2Ideal.Read.val_main_v14
  generalize Cert.Reference2Ideal.Read.val_main_v13 (F := Ideal) _ _ _ = Z
  funext i
  pointwise

end Cert.Kernel2Ideal.RefValue

end
-- ==== Proof.Norm3.lean ====
/- The second layer's input projection (`Kernel3`): what one block of rows holds, and the array after the run. -/
module

public import proofs.«01_k».proof.Proof.Gen.Kernel3Ideal.Value
public import proofs.«01_k».proof.Proof.Gen.Reference3Ideal.Read
public import proofs.«01_k».proof.Proof.Rows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

section
open Cert.Reference3Ideal Cert.Reference3Ideal.Read

/-- The reference at index `i`: the normalised row `i 0` times the column `i 1`. -/
theorem Cert.Reference3Ideal.RefValue.ref_at (X : FVec Ideal S8192x2048 .f32) (G : FVec Ideal S2048 .f32)
    (W : FVec Ideal S2048x4096 .f32) (i : S8192x4096.Idx) :
    val_main_v13 (F := Ideal) X G W i
      = Cert.Rows.proj (fun k => X (ix2 (i 0) k)) (fun k => G (ix1 k)) (fun k => W (ix2 k (i 1))) := by
  pointwise [val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1, Cert.Rows.proj, Cert.Rows.normed]

end

namespace Cert.Kernel3Ideal.RefValue
open Cert.Kernel3Ideal Cert.Kernel3Ideal.Gen

variable (m : (ℓ : Loc nD τ sig) → Buf (Elt Ideal) ℓ)

/-- What the body leaves at index `y` of its block. -/
theorem tile_at (x0 : Vec Ideal S512x2048 .f32) (x1 : Vec Ideal S2048x4096 .bf16) (x2 : Vec Ideal S1x2048 .f32)
    (y : S512x4096.Idx) :
    out0_3 (F := Ideal) x0 x1 x2 y
      = Cert.Rows.proj (fun k => x0 (ix2 (y 0) k)) (fun k => x2 (ix2 0 k)) (fun k => x1 (ix2 k (y 1))) := by
  unfold out0_3
  canon_tiles x h <;> (open_payloads; pointwise [Cert.Rows.proj, Cert.Rows.normed]; blk_point [h0, h1])

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The result array after the run is the reference's term. -/
theorem final (c : Dev nD) : (dats m 0 c).arrAt 3 (cfgs 0).N
    = Cert.Reference3Ideal.Read.val_main_v13 (F := Ideal) (m ((c : Thread nD τ).loc main_arg0))
      (m ((c : Thread nD τ).loc main_arg1)) (m ((c : Thread nD τ).loc main_arg2)) := by
  refine (dats m 0 c).arrAt_eq_of_covers 3 _ (by decide +kernel) fun t _ y => ?_
  blk_simp
  rw [after0_3]
  rw [tile_at, Cert.Reference3Ideal.RefValue.ref_at]
  refine congr (congr (congrArg Cert.Rows.proj (funext fun k => ?_)) (funext fun k => ?_)) (funext fun k => ?_)
  · blk_point [iblk, V, idx t]
  · blk_point [iblk, V, idx t]
  · blk_point [iblk, V, idx t]

end Cert.Kernel3Ideal.RefValue

end
-- ==== Proof.Norm4.lean ====
/- The query projection of the expert layer (`Kernel4`): what one block of rows holds, and the array after the run. -/
module

public import proofs.«01_k».proof.Proof.Gen.Kernel4Ideal.Value
public import proofs.«01_k».proof.Proof.Gen.Reference4Ideal.Read
public import proofs.«01_k».proof.Proof.Rows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

section
open Cert.Reference4Ideal Cert.Reference4Ideal.Read

/-- The reference at index `i`: the normalised row `i 0` times the column `i 1`. -/
theorem Cert.Reference4Ideal.RefValue.ref_at (X : FVec Ideal S8192x2048 .f32) (G : FVec Ideal S2048 .f32)
    (W : FVec Ideal S2048x2048 .f32) (i : S8192x2048.Idx) :
    val_main_v13 (F := Ideal) X G W i
      = Cert.Rows.proj (fun k => X (ix2 (i 0) k)) (fun k => G (ix1 k)) (fun k => W (ix2 k (i 1))) := by
  pointwise [val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1, Cert.Rows.proj, Cert.Rows.normed]

end

namespace Cert.Kernel4Ideal.RefValue
open Cert.Kernel4Ideal Cert.Kernel4Ideal.Gen

variable (m : (ℓ : Loc nD τ sig) → Buf (Elt Ideal) ℓ)

/-- What the body leaves at index `y` of its block. -/
theorem tile_at (x0 : Vec Ideal S512x2048 .f32) (x1 : Vec Ideal S2048x2048 .bf16) (x2 : Vec Ideal S1x2048 .f32)
    (y : S512x2048.Idx) :
    out0_3 (F := Ideal) x0 x1 x2 y
      = Cert.Rows.proj (fun k => x0 (ix2 (y 0) k)) (fun k => x2 (ix2 0 k)) (fun k => x1 (ix2 k (y 1))) := by
  unfold out0_3
  canon_tiles x h <;> (open_payloads; pointwise [Cert.Rows.proj, Cert.Rows.normed]; blk_point [h0, h1])

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The result array after the run is the reference's term. -/
theorem final (c : Dev nD) : (dats m 0 c).arrAt 3 (cfgs 0).N
    = Cert.Reference4Ideal.Read.val_main_v13 (F := Ideal) (m ((c : Thread nD τ).loc main_arg0))
      (m ((c : Thread nD τ).loc main_arg1)) (m ((c : Thread nD τ).loc main_arg2)) := by
  refine (dats m 0 c).arrAt_eq_of_covers 3 _ (by decide +kernel) fun t _ y => ?_
  blk_simp
  rw [after0_3]
  rw [tile_at, Cert.Reference4Ideal.RefValue.ref_at]
  refine congr (congr (congrArg Cert.Rows.proj (funext fun k => ?_)) (funext fun k => ?_)) (funext fun k => ?_)
  · blk_point [iblk, V, idx t]
  · blk_point [iblk, V, idx t]
  · blk_point [iblk, V, idx t]

end Cert.Kernel4Ideal.RefValue

end
-- ==== Proof.Out5.lean ====
/- The first layer's output projection (`Kernel5`): what one block of rows holds, and the array after the run. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

section
open Cert.Reference5Ideal Cert.Reference5Ideal.Read

/-- The reference at index `i`: the residual plus the row times the column. -/
theorem Cert.Reference5Ideal.RefValue.ref_at (Y : FVec Ideal S8192x2048 .f32) (W : FVec Ideal S2048x2048 .f32)
    (H : FVec Ideal S8192x2048 .f32) (i : S8192x2048.Idx) :
    val_main_v1 (F := Ideal) Y W H i = H i + ∑ k, Y (ix2 (i 0) k) * W (ix2 k (i 1)) := by
  pointwise [val_main_v1, val_main_v0]

end

namespace Cert.Kernel5Ideal.RefValue
open Cert.Kernel5Ideal Cert.Kernel5Ideal.Gen

variable (m : (ℓ : Loc nD τ sig) → Buf (Elt Ideal) ℓ)

/-- What the body leaves at index `y` of its block. -/
theorem tile_at (x0 : Vec Ideal S512x2048 .f32) (x1 : Vec Ideal S2048x2048 .bf16) (x2 : Vec Ideal S512x2048 .f32)
    (y : S512x2048.Idx) :
    out0_3 (F := Ideal) x0 x1 x2 y = x2 y + ∑ k, x0 (ix2 (y 0) k) * x1 (ix2 k (y 1)) := by
  unfold out0_3
  canon_tiles x h <;> (open_payloads; pointwise []; blk_point [h0, h1])

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The result array after the run is the reference's term. -/
theorem final (c : Dev nD) : (dats m 0 c).arrAt 3 (cfgs 0).N
    = Cert.Reference5Ideal.Read.val_main_v1 (F := Ideal) (m ((c : Thread nD τ).loc main_arg0))
      (m ((c : Thread nD τ).loc main_arg1)) (m ((c : Thread nD τ).loc main_arg2)) := by
  refine (dats m 0 c).arrAt_eq_of_covers 3 _ (by decide +kernel) fun t _ y => ?_
  blk_simp
  rw [after0_3]
  rw [tile_at, Cert.Reference5Ideal.RefValue.ref_at]
  refine congrArg₂ (· + ·) ?_ (Finset.sum_congr rfl fun k _ => congrArg₂ (· * ·) ?_ ?_)
  · blk_point [iblk, V, idx t]
  · blk_point [iblk, V, idx t]
  · blk_point [iblk, V, idx t]

end Cert.Kernel5Ideal.RefValue

end
-- ==== Proof.Out6.lean ====
/- The second layer's output projection (`Kernel6`): what one block of rows holds, and the array after the run. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

section
open Cert.Reference6Ideal Cert.Reference6Ideal.Read

/-- The reference at index `i`: the residual plus the joined row times the column, split at the joint. -/
theorem Cert.Reference6Ideal.RefValue.ref_at (A B : FVec Ideal S8192x1024 .f32) (W : FVec Ideal S2048x2048 .f32)
    (H : FVec Ideal S8192x2048 .f32) (i : S8192x2048.Idx) :
    val_main_v2 (F := Ideal) A B W H i
      = H i + (∑ k : Fin 1024, A (ix2 (i 0) k) * W (ix2 ⟨k.val, by omega⟩ (i 1))
        + ∑ k : Fin 1024, B (ix2 (i 0) k) * W (ix2 ⟨1024 + k.val, by omega⟩ (i 1))) := by
  pointwise [val_main_v2, val_main_v1, val_main_v0]

end

namespace Cert.Kernel6Ideal.RefValue
open Cert.Kernel6Ideal Cert.Kernel6Ideal.Gen

variable (m : (ℓ : Loc nD τ sig) → Buf (Elt Ideal) ℓ)

/-- What the body leaves at index `y` of its block. -/
theorem tile_at (x0 : Vec Ideal S512x1024 .f32) (x1 : Vec Ideal S1024x2048 .bf16) (x2 : Vec Ideal S512x1024 .f32)
    (x3 : Vec Ideal S1024x2048 .bf16) (x4 : Vec Ideal S512x2048 .f32) (y : S512x2048.Idx) :
    out0_5 (F := Ideal) x0 x1 x2 x3 x4 y = x4 y + (∑ k, x0 (ix2 (y 0) k) * x1 (ix2 k (y 1))
      + ∑ k, x2 (ix2 (y 0) k) * x3 (ix2 k (y 1))) := by
  unfold out0_5
  canon_tiles x h <;> (open_payloads; pointwise []; blk_point [h0, h1])

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The result array after the run is the reference's term. -/
theorem final (c : Dev nD) : (dats m 0 c).arrAt 5 (cfgs 0).N
    = Cert.Reference6Ideal.Read.val_main_v2 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  rw [tile_at, Cert.Reference6Ideal.RefValue.ref_at]
  refine congrArg₂ (· + ·) ?_ (congrArg₂ (· + ·) (Finset.sum_congr rfl fun k _ => congrArg₂ (· * ·) ?_ ?_)
    (Finset.sum_congr rfl fun k _ => congrArg₂ (· * ·) ?_ ?_))
  · blk_point [iblk, V, idx t]
  · blk_point [iblk, V, idx t]
  · blk_point [iblk, V, idx t]
  · blk_point [iblk, V, idx t]
  · blk_point [iblk, V, idx t]

end Cert.Kernel6Ideal.RefValue

end
-- ==== Proof.Glu7.lean ====
/- The gate on the state-space output (`Kernel7`): what one block of rows holds, and the array after the run. -/
module

public import proofs.«01_k».proof.Proof.Gen.Kernel7Ideal.Value
public import proofs.«01_k».proof.Proof.Gen.Reference7Ideal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

section
open Cert.Reference7Ideal Cert.Reference7Ideal.Read

/-- The reference at index `i`: the entry times the logistic of its gate. -/
theorem Cert.Reference7Ideal.RefValue.ref_at (Y : FVec Ideal S8192x1024 .f32) (W : FVec Ideal S1024x1024 .f32)
    (B : FVec Ideal S1024 .f32) (i : S8192x1024.Idx) :
    val_main_v10 (F := Ideal) Y W B i
      = Y i * Ideal.logistic (∑ k, Y (ix2 (i 0) k) * W (ix2 k (i 1)) + B (ix1 (i 1))) := by
  pointwise [val_main_v10, val_main_v9, val_main_v8, val_main_v7, val_main_v6, val_main_v5, val_main_v4, val_main_v3,
    val_main_v2, val_main_v1, val_main_v0, val_main_cst, val_main_cst_0, Ideal.logistic]

end

namespace Cert.Kernel7Ideal.RefValue
open Cert.Kernel7Ideal Cert.Kernel7Ideal.Gen

variable (m : (ℓ : Loc nD τ sig) → Buf (Elt Ideal) ℓ)

/-- What the body leaves at index `y` of its block. -/
theorem tile_at (x0 : Vec Ideal S512x1024 .f32) (x1 : Vec Ideal S1024x1024 .bf16) (x2 : Vec Ideal S1x1024 .f32)
    (y : S512x1024.Idx) :
    out0_3 (F := Ideal) x0 x1 x2 y
      = x0 y * Ideal.logistic (∑ k, x0 (ix2 (y 0) k) * x1 (ix2 k (y 1)) + x2 (ix2 0 (y 1))) := by
  unfold out0_3
  canon_tiles x h <;> (open_payloads; pointwise []; blk_point [h0, h1])

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The result array after the run is the reference's term. -/
theorem final (c : Dev nD) : (dats m 0 c).arrAt 3 (cfgs 0).N
    = Cert.Reference7Ideal.Read.val_main_v10 (F := Ideal) (m ((c : Thread nD τ).loc main_arg0))
      (m ((c : Thread nD τ).loc main_arg1)) (m ((c : Thread nD τ).loc main_arg2)) := by
  refine (dats m 0 c).arrAt_eq_of_covers 3 _ (by decide +kernel) fun t _ y => ?_
  blk_simp
  rw [after0_3]
  rw [tile_at, Cert.Reference7Ideal.RefValue.ref_at]
  refine congrArg₂ (· * ·) ?_ (congrArg Ideal.logistic
    (congrArg₂ (· + ·) (Finset.sum_congr rfl fun k _ => congrArg₂ (· * ·) ?_ ?_) ?_))
  · blk_point [iblk, V, idx t]
  · blk_point [iblk, V, idx t]
  · blk_point [iblk, V, idx t]
  · blk_point [iblk, V, idx t]

end Cert.Kernel7Ideal.RefValue

end
-- ==== Proof.Sample8.lean ====
/- The first layer's input projection of the sample rows (`Kernel8`), and the shifted windows of keys and values. -/
module

public import proofs.«01_k».proof.Proof.Gen.Kernel8Ideal.Frame
public import proofs.«01_k».proof.Proof.Gen.Reference8Ideal.Read
public import proofs.«01_k».proof.Proof.Rows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

section
open Cert.Reference8Ideal Cert.Reference8Ideal.Read

/-- The reference at token `i 1` of sample `i 0`: the normalised row times the column `i 2`. -/
theorem Cert.Reference8Ideal.RefValue.ref_at (X : FVec Ideal S128x4x2048 .f32) (G : FVec Ideal S2048 .f32)
    (W : FVec Ideal S2048x3584 .f32) (i : S128x4x3584.Idx) :
    val_main_v13 (F := Ideal) X G W i
      = Cert.Rows.proj (fun k => X (ix3 (i 0) (i 1) k)) (fun k => G (ix1 k)) (fun k => W (ix2 k (i 2))) := by
  pointwise [val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1, Cert.Rows.proj, Cert.Rows.normed]

/-- Entry `k` of row `r` of the rows put under each other: token `r % 4` of sample `r / 4`. -/
def Cert.Reference8Ideal.RefValue.row3 (X : FVec Ideal S128x4x2048 .f32) (r : Fin 512) (k : Fin 2048) : EReal :=
  X (ix3 ⟨r.val / 4, by omega⟩ ⟨r.val % 4, by omega⟩ k)

/-- The reference's projected array with its rows under each other. -/
theorem Cert.Reference8Ideal.RefValue.flat_at (X : FVec Ideal S128x4x2048 .f32) (G : FVec Ideal S2048 .f32)
    (W : FVec Ideal S2048x3584 .f32) (i : S512x3584.Idx) :
    val_main_v25 (F := Ideal) X G W i
      = Cert.Rows.proj (Cert.Reference8Ideal.RefValue.row3 X (i 0)) (fun k => G (ix1 k)) (fun k => W (ix2 k (i 1))) := by
  have h0 : (i 0).val < 512 := (i 0).isLt
  have h1 : (i 1).val < 3584 := (i 1).isLt
  rw [val_main_v25_apply, Cert.Reference8Ideal.RefValue.ref_at]
  refine congr (congr (congrArg Cert.Rows.proj (funext fun k => ?_)) rfl) (funext fun k => ?_)
  · refine congrArg X (funext fun a => Fin.ext ?_)
    match a with
    | ⟨0, _⟩ => show ((i 0).val * 3584 + (i 1).val) / 14336 = (i 0).val / 4; omega
    | ⟨1, _⟩ => show ((i 0).val * 3584 + (i 1).val) / 3584 % 4 = (i 0).val % 4; omega
    | ⟨2, _⟩ => rfl
  · refine congrArg W (funext fun a => Fin.ext ?_)
    match a with
    | ⟨0, _⟩ => rfl
    | ⟨1, _⟩ => show ((i 0).val * 3584 + (i 1).val) % 3584 = (i 1).val; omega

end

namespace Cert.Kernel8Ideal.RefValue
open Cert.Kernel8Ideal Cert.Kernel8Ideal.Gen

variable (m : (ℓ : Loc nD τ sig) → Buf (Elt Ideal) ℓ)

/-- What the body leaves at index `y` of its one block. -/
theorem tile_at (x0 : Vec Ideal S512x2048 .f32) (x1 : Vec Ideal S2048x3584 .bf16) (x2 : Vec Ideal S1x2048 .f32)
    (y : S512x3584.Idx) :
    out0_3 (F := Ideal) x0 x1 x2 y
      = Cert.Rows.proj (fun k => x0 (ix2 (y 0) k)) (fun k => x2 (ix2 0 k)) (fun k => x1 (ix2 k (y 1))) := by
  unfold out0_3
  canon_tiles x h <;> (open_payloads; pointwise [Cert.Rows.proj, Cert.Rows.normed]; blk_point [h0, h1])

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The rows as the call reads them: the tokens of all samples under each other. -/
theorem V_rows (c : Dev nD) : V m c main_v0
    = shapeCast S512x2048 (m ((c : Thread nD τ).loc main_arg0)) shapeCasts_S128x4x2048_S512x2048 := by
  simp only [V, V0, List.flatten_cons, List.flatten_nil, List.append_nil]
  after_results
  try rfl

/-- One entry of the rows as the call reads them. -/
theorem rows_at (c : Dev nD) (j : S512x2048.Idx) : V m c main_v0 j
    = Cert.Reference8Ideal.RefValue.row3 (m ((c : Thread nD τ).loc main_arg0)) (j 0) (j 1) := by
  have h0 : (j 0).val < 512 := (j 0).isLt
  have h1 : (j 1).val < 2048 := (j 1).isLt
  rw [V_rows]
  exact shapeCast_apply _ shapeCasts_S128x4x2048_S512x2048 j
    (ix3 ⟨(j 0).val / 4, by omega⟩ ⟨(j 0).val % 4, by omega⟩ (j 1)) (by
      rewrite [Shape.rowMajor_val_three, Shape.rowMajor_val_two]
      show ((j 0).val / 4 * 4 + (j 0).val % 4) * 2048 + (j 1).val = (j 0).val * 2048 + (j 1).val
      omega)

/-- The gain as the call reads it: one row. -/
theorem V_gain (c : Dev nD) : V m c main_v2
    = shapeCast S1x2048 (m ((c : Thread nD τ).loc main_arg1)) shapeCasts_S2048_S1x2048 := by
  simp only [V, V0, List.flatten_cons, List.flatten_nil, List.append_nil]
  after_results
  try rfl

/-- The weight as the call reads it: in the narrow format, over the extended reals itself. -/
theorem V_weight (c : Dev nD) : V m c main_v1
    = truncf (F := Ideal) .bf16 (m ((c : Thread nD τ).loc main_arg2)) bitsLt_bf16_f32 := by
  simp only [V, V0, List.flatten_cons, List.flatten_nil, List.append_nil]
  after_results
  try rfl

/-- The result array after the run is the reference's term, its rows under each other. -/
theorem final (c : Dev nD) : (dats m 0 c).arrAt 3 (cfgs 0).N
    = Cert.Reference8Ideal.Read.val_main_v25 (F := Ideal) (m ((c : Thread nD τ).loc main_arg0))
      (m ((c : Thread nD τ).loc main_arg1)) (m ((c : Thread nD τ).loc main_arg2)) := by
  refine (dats m 0 c).arrAt_eq_of_covers 3 _ (by decide +kernel) fun t _ y => ?_
  blk_simp
  rw [after0_3]
  rw [tile_at, Cert.Reference8Ideal.RefValue.flat_at]
  refine congr (congr (congrArg Cert.Rows.proj (funext fun k => ?_)) (funext fun k => ?_)) (funext fun k => ?_)
  · blk_simp [iblk, idx t]
    refine (congrArg (V m c main_v0) (?_ : _ = ix2 (((win0_3.blk t).view.emb y) 0) k)).trans (rows_at m c _)
    blk_ext [idx t]
  · blk_simp [iblk, idx t]
    rw [V_gain]
    pointwise
    blk_ext [idx t]
  · blk_simp [iblk, idx t]
    rw [V_weight]
    pointwise
    blk_ext [idx t]

/-- The projected array as the lines after the call read it. -/
theorem arr_read (c : Dev nD) : Pipeline.withArrays (τ := τ) spec0 c (V0 m c) (fun w => (dats m 0 c).arrAt w (cfgs 0).N)
      (Proc.devRef .tc main_v3)
    = Cert.Reference8Ideal.Read.val_main_v25 (F := Ideal) (m ((c : Thread nD τ).loc main_arg0))
      (m ((c : Thread nD τ).loc main_arg1)) (m ((c : Thread nD τ).loc main_arg2)) :=
  (Pipeline.withArrays_arr spec0 launch0.win.arr_inj c (V0 m c) _ 3).trans (final m c)

/-- The buffered keys as the lines after the call read them: as launched. -/
theorem buf_k (c : Dev nD) : Pipeline.withArrays (τ := τ) spec0 c (V0 m c) (fun w => (dats m 0 c).arrAt w (cfgs 0).N)
      (Proc.devRef .tc main_arg3) = m ((c : Thread nD τ).loc main_arg3) :=
  (Pipeline.withArrays_of_ne _ c (V0 m c) _ main_arg3
    (by exact (by decide : ∀ w, Pipeline.arrRef spec0 w ≠ main_arg3))).trans (V_main_arg3 m c)

/-- The buffered values likewise. -/
theorem buf_v (c : Dev nD) : Pipeline.withArrays (τ := τ) spec0 c (V0 m c) (fun w => (dats m 0 c).arrAt w (cfgs 0).N)
      (Proc.devRef .tc main_arg4) = m ((c : Thread nD τ).loc main_arg4) :=
  (Pipeline.withArrays_of_ne _ c (V0 m c) _ main_arg4
    (by exact (by decide : ∀ w, Pipeline.arrRef spec0 w ≠ main_arg4))).trans (V_main_arg4 m c)

/-- The window of keys after the step: the last 128 of the buffered ones and the new ones. -/
theorem tail_k (c : Dev nD) : Pipeline.afterTail₀ cfgs (dats m) 0 (V0 m) [hostOps1] c main_v14
    = Cert.Reference8Ideal.Read.val_main_v27 (F := Ideal) (m ((c : Thread nD τ).loc main_arg0))
      (m ((c : Thread nD τ).loc main_arg1)) (m ((c : Thread nD τ).loc main_arg2)) (m ((c : Thread nD τ).loc main_arg3)) := by
  unfold Pipeline.afterTail₀
  simp only [List.flatten_cons, List.flatten_nil, List.append_nil]
  after_results
  refine (congrArg₂ (fun (Z : FVec Ideal S512x3584 .f32) (K : FVec Ideal S1x128x128x4x64 .f32) =>
    shapeCast S1x128x128x4x64 (extractStridedSlice S128x128x256 ![0, 4, 0] (concatenate S128x132x256 1
      [⟨S128x128x256, shapeCast S128x128x256 (shapeCast S128x128x4x64 K shapeCasts_S1x128x128x4x64_S128x128x4x64)
          shapeCasts_S128x128x4x64_S128x128x256⟩,
        ⟨S128x4x256, shapeCast S128x4x256 (extractStridedSlice S512x256 ![0, 3072] Z
          slices_S512x3584_S512x256_0_3072) shapeCasts_S512x256_S128x4x256⟩]
      concatenates_S128x128x256_S128x4x256_S128x132x256_d1) slices_S128x132x256_S128x128x256_0_4_0)
      shapeCasts_S128x128x256_S1x128x128x4x64) (arr_read m c) (buf_k m c)).trans ?_
  unfold Cert.Reference8Ideal.Read.val_main_v27 Cert.Reference8Ideal.Read.val_main_v26 Cert.Reference8Ideal.Read.val_main_v22 Cert.Reference8Ideal.Read.val_main_v21 Cert.Reference8Ideal.Read.val_main_v19 Cert.Reference8Ideal.Read.val_main_v17 Cert.Reference8Ideal.Read.val_main_v25
  generalize Cert.Reference8Ideal.Read.val_main_v13 (F := Ideal) _ _ _ = Z
  generalize m ((c : Thread nD τ).loc main_arg3) = K
  funext i
  pointwise
  have h2 : (i 2).val < 128 := (i 2).isLt
  split
  · rfl
  · refine congrArg Z (congrArg (fun t => ix3 (i 1) t _) (Fin.ext ?_))
    show ((i 1).val * 4 + (4 + (i 2).val - 128)) % 4 = 4 + (i 2).val - 128
    omega

/-- The window of values after the step. -/
theorem tail_v (c : Dev nD) : Pipeline.afterTail₀ cfgs (dats m) 0 (V0 m) [hostOps1] c main_v17
    = Cert.Reference8Ideal.Read.val_main_v29 (F := Ideal) (m ((c : Thread nD τ).loc main_arg0))
      (m ((c : Thread nD τ).loc main_arg1)) (m ((c : Thread nD τ).loc main_arg2)) (m ((c : Thread nD τ).loc main_arg4)) := by
  unfold Pipeline.afterTail₀
  simp only [List.flatten_cons, List.flatten_nil, List.append_nil]
  after_results
  refine (congrArg₂ (fun (Z : FVec Ideal S512x3584 .f32) (K : FVec Ideal S1x128x128x4x64 .f32) =>
    shapeCast S1x128x128x4x64 (extractStridedSlice S128x128x256 ![0, 4, 0] (concatenate S128x132x256 1
      [⟨S128x128x256, shapeCast S128x128x256 (shapeCast S128x128x4x64 K shapeCasts_S1x128x128x4x64_S128x128x4x64)
          shapeCasts_S128x128x4x64_S128x128x256⟩,
        ⟨S128x4x256, shapeCast S128x4x256 (extractStridedSlice S512x256 ![0, 3328] Z
          slices_S512x3584_S512x256_0_3328) shapeCasts_S512x256_S128x4x256⟩]
      concatenates_S128x128x256_S128x4x256_S128x132x256_d1) slices_S128x132x256_S128x128x256_0_4_0)
      shapeCasts_S128x128x256_S1x128x128x4x64) (arr_read m c) (buf_v m c)).trans ?_
  unfold Cert.Reference8Ideal.Read.val_main_v29 Cert.Reference8Ideal.Read.val_main_v28 Cert.Reference8Ideal.Read.val_main_v24 Cert.Reference8Ideal.Read.val_main_v23 Cert.Reference8Ideal.Read.val_main_v20 Cert.Reference8Ideal.Read.val_main_v18 Cert.Reference8Ideal.Read.val_main_v25
  generalize Cert.Reference8Ideal.Read.val_main_v13 (F := Ideal) _ _ _ = Z
  generalize m ((c : Thread nD τ).loc main_arg4) = K
  funext i
  pointwise
  have h2 : (i 2).val < 128 := (i 2).isLt
  split
  · rfl
  · refine congrArg Z (congrArg (fun t => ix3 (i 1) t _) (Fin.ext ?_))
    show ((i 1).val * 4 + (4 + (i 2).val - 128)) % 4 = 4 + (i 2).val - 128
    omega

end Cert.Kernel8Ideal.RefValue

end
-- ==== Proof.Dense.lean ====
/- The value claims of the dense calls (`Kernel2` … `Kernel8`): the run of each kernel beside the run of its reference. -/
module

public import proofs.«01_k».proof.Defs
public import proofs.«01_k».proof.Proof.Norm2
public import proofs.«01_k».proof.Proof.Norm3
public import proofs.«01_k».proof.Proof.Norm4
public import proofs.«01_k».proof.Proof.Out5
public import proofs.«01_k».proof.Proof.Out6
public import proofs.«01_k».proof.Proof.Glu7
public import proofs.«01_k».proof.Proof.Sample8
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import Idealize.ShloMosaic.Adequacy
public import Idealize.ShloMosaic.Init

@[expose] public section

set_option maxRecDepth 16384

noncomputable section

namespace Cert.Dense

open Idealize.ShloMosaic Idealize.ShloMosaic.TcCoe Idealize.SL.Sem

theorem algebraic2 : Cert.algebraic_Kernel2Ideal_Reference2Ideal := by
  pair_intro
  · run_from Cert.Kernel2Ideal.Gen.run_main m g
    · exact Cert.Kernel2Ideal.Gen.W_main_arg1 m _ c
    · exact Cert.Kernel2Ideal.Gen.W_main_arg2 m _ c
  · run_from Cert.Reference2Ideal.Value.run m' g'
    · exact (Cert.Kernel2Ideal.RefValue.final m c).symm
    · exact (Cert.Kernel2Ideal.RefValue.tail_k m c).symm
    · exact (Cert.Kernel2Ideal.RefValue.tail_v m c).symm

theorem algebraic3 : Cert.algebraic_Kernel3Ideal_Reference3Ideal := by
  pair_intro
  · run_from Cert.Kernel3Ideal.Gen.run_main m g
  · run_from Cert.Reference3Ideal.Value.run m' g'
    exact (Cert.Kernel3Ideal.RefValue.final m c).symm

theorem algebraic4 : Cert.algebraic_Kernel4Ideal_Reference4Ideal := by
  pair_intro
  · run_from Cert.Kernel4Ideal.Gen.run_main m g
  · run_from Cert.Reference4Ideal.Value.run m' g'
    exact (Cert.Kernel4Ideal.RefValue.final m c).symm

theorem algebraic5 : Cert.algebraic_Kernel5Ideal_Reference5Ideal := by
  pair_intro
  · run_from Cert.Kernel5Ideal.Gen.run_main m g
  · run_from Cert.Reference5Ideal.Value.run m' g'
    exact (Cert.Kernel5Ideal.RefValue.final m c).symm

theorem algebraic6 : Cert.algebraic_Kernel6Ideal_Reference6Ideal := by
  pair_intro
  · run_from Cert.Kernel6Ideal.Gen.run_main m g
  · run_from Cert.Reference6Ideal.Value.run m' g'
    exact (Cert.Kernel6Ideal.RefValue.final m c).symm

theorem algebraic7 : Cert.algebraic_Kernel7Ideal_Reference7Ideal := by
  pair_intro
  · run_from Cert.Kernel7Ideal.Gen.run_main m g
  · run_from Cert.Reference7Ideal.Value.run m' g'
    exact (Cert.Kernel7Ideal.RefValue.final m c).symm

theorem algebraic8 : Cert.algebraic_Kernel8Ideal_Reference8Ideal := by
  pair_intro
  · run_from Cert.Kernel8Ideal.Gen.run_main m g
    · exact Cert.Kernel8Ideal.Gen.W_main_arg0 m _ c
    · exact Cert.Kernel8Ideal.Gen.W_main_arg1 m _ c
    · exact Cert.Kernel8Ideal.Gen.W_main_arg2 m _ c
    · exact Cert.Kernel8Ideal.Gen.W_main_arg3 m _ c
    · exact Cert.Kernel8Ideal.Gen.W_main_arg4 m _ c
  · run_from Cert.Reference8Ideal.Value.run m' g'
    · exact (Cert.Kernel8Ideal.RefValue.final m c).symm
    · exact (Cert.Kernel8Ideal.RefValue.tail_k m c).symm
    · obtain ⟨_, _, _, _, e4⟩ := hagree c
      exact (congrArg (Cert.Reference8Ideal.Read.val_main_v29 (F := Ideal) _ _ _) e4).trans
        (Cert.Kernel8Ideal.RefValue.tail_v m c).symm

end Cert.Dense

end
-- ==== Proof.RetCell.lean ====
/- The sample retention call (`Kernel9`): every one of its 128 stores is the same few lines of arithmetic, at the sample
   `b` of the block and the head `h` of the store. Here those lines are written once, over the queries, keys, values and
   tables the body loads, and the two output blocks are families of stores of that one shape. -/
module

public import proofs.«01_k».proof.Proof.Gen.Kernel9Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel9Ideal.RefValue
open Cert.Kernel9Ideal Cert.Kernel9Ideal.Gen

/-- The rows of sample `b` of a block. -/
abbrev rowR (b : Fin 8) : Rect S8x8x1024 := Rect.unit (s := S8x8x1024) ![b.val, 0, 0] S1x8x1024.size fun a => match a with
  | ⟨0, _⟩ => by show b.val + 1 ≤ 8; omega
  | ⟨1, _⟩ => by show 0 + 8 ≤ 8; omega
  | ⟨2, _⟩ => by show 0 + 1024 ≤ 1024; omega

/-- The state of sample `b` of a block. -/
abbrev stateR (b : Fin 8) : Rect S8x512x128 := Rect.unit (s := S8x512x128) ![b.val, 0, 0] S1x512x128.size fun a => match a with
  | ⟨0, _⟩ => by show b.val + 1 ≤ 8; omega
  | ⟨1, _⟩ => by show 0 + 512 ≤ 512; omega
  | ⟨2, _⟩ => by show 0 + 128 ≤ 128; omega

/-- The rows of head `h` of the state's decay table. -/
abbrev decR (h : Fin 8) : Rect S512x128 := Rect.unit (s := S512x128) ![64 * h.val, 0] S64x128.size fun a => match a with
  | ⟨0, _⟩ => by show 64 * h.val + 64 ≤ 512; omega
  | ⟨1, _⟩ => by show 0 + 128 ≤ 128; omega

/-- The lanes of head `h` of the gain. -/
abbrev gainR (h : Fin 8) : Rect S1x1024 := Rect.unit (s := S1x1024) ![0, 128 * h.val] S1x128.size fun a => match a with
  | ⟨0, _⟩ => by show 0 + 1 ≤ 1; omega
  | ⟨1, _⟩ => by show 128 * h.val + 128 ≤ 1024; omega

/-- The whole of a table, as a load. -/
abbrev wide : Rect S8x512 := Rect.unit (s := S8x512) ![0, 0] S8x512.size inb_S8x512_S8x512_0_0

/-- The rotated and scaled queries of one sample. -/
def queries (l : Vec Ideal S1x8x1024 .f32) (c s : Vec Ideal S8x512 .f32) : FVec Ideal S8x512 .f32 :=
  k0_pay10 (F := Ideal) (k0_pay4 l) (k0_pay5 c) (k0_pay6 s) (Scalar.select (Scalar.cmpi .eq 64#32 0#32) 1#32 64#32) k0_pay7 k0_pay8 k0_pay9

/-- The rotated keys of one sample. -/
def keys (l : Vec Ideal S1x8x1024 .f32) (c s : Vec Ideal S8x512 .f32) : FVec Ideal S8x512 .f32 :=
  k0_pay15 (F := Ideal) (k0_pay11 (k0_pay3 l)) (k0_pay12 c) (k0_pay13 s) k0_pay14 480#32

/-- The scores of one sample against its values. -/
def intra (q k : FVec Ideal S8x512 .f32) (v : Vec Ideal S1x8x1024 .f32) (d : Vec Ideal S64x8 .f32) : FVec Ideal S64x1024 .f32 :=
  k0_pay27 (F := Ideal) k0_pay2 q k (k0_pay17 v) (k0_pay18 k0_pay2 q) (k0_pay19 k0_pay2 q) (k0_pay20 k0_pay2 q) (k0_pay21 k0_pay2 q)
    (k0_pay22 k0_pay2 q) (k0_pay23 k0_pay2 q) (k0_pay24 k0_pay2 q) d

/-- The queries of one sample against its state. -/
def cross (q : FVec Ideal S8x512 .f32) (st : Vec Ideal S1x512x128 .f32) (d : Vec Ideal S64x128 .f32) : FVec Ideal S64x128 .f32 :=
  k0_pay28 (F := Ideal) k0_pay2 q (k0_pay18 k0_pay2 q) (k0_pay19 k0_pay2 q) (k0_pay20 k0_pay2 q) (k0_pay21 k0_pay2 q)
    (k0_pay22 k0_pay2 q) (k0_pay23 k0_pay2 q) (k0_pay24 k0_pay2 q) st d

/-- What is stored of the new state of one head. -/
def newState (h : Fin 8) (k : FVec Ideal S8x512 .f32) (v : Vec Ideal S1x8x1024 .f32) (st : Vec Ideal S1x512x128 .f32)
    (kd : Vec Ideal S8x512 .f32) (sd : Vec Ideal S64x128 .f32)
    (h1 : Shape.Slices S512x128 ![64 * h.val, 0] S64x128) (h2 : Shape.Slices S8x512 ![0, 64 * h.val] S8x64)
    (h3 : Shape.Slices S8x1024 ![0, 128 * h.val] S8x128) : FVec Ideal S1x64x128 .f32 :=
  shapeCast S1x64x128 (addf (mulf (shapeCast S64x128 sd shapeCasts_S64x128_S64x128)
      (extractStridedSlice S64x128 ![64 * h.val, 0] (k0_pay26 (F := Ideal) st) h1))
    (matmul (F := Ideal) dot_S8x64_S8x128_S64x128_0_0_1_1_n_n none (extractStridedSlice S8x64 ![0, 64 * h.val] (k0_pay29 (F := Ideal) k kd) h2)
      (extractStridedSlice S8x128 ![0, 128 * h.val] (k0_pay17 (F := Ideal) v) h3) (constant S64x128 .f32 0x00000000#32)))
    shapeCasts_S64x128_S1x64x128

/-- One head's two parts of the output added up. -/
def headSum (h : Fin 8) (a : FVec Ideal S64x1024 .f32) (c : FVec Ideal S64x128 .f32)
    (h1 : Shape.Slices S64x1024 ![8 * h.val, 128 * h.val] S8x128) (h2 : Shape.Slices S64x128 ![8 * h.val, 0] S8x128) : FVec Ideal S8x128 .f32 :=
  addf (F := Ideal) (extractStridedSlice S8x128 ![8 * h.val, 128 * h.val] a h1) (extractStridedSlice S8x128 ![8 * h.val, 0] c h2)

/-- The mean of a head's lanes. -/
def headMean (o : FVec Ideal S8x128 .f32) : FVec Ideal S8x1 .f32 :=
  divf (F := Ideal) (shapeCast S8x1 (multiReduction .add [1] S8 o 0x00000000#32 reduces_S8x128_S8 (.inl rfl) rfl) shapeCasts_S8_S8x1)
    (broadcast S8x1 (Scalar.ofBits .f32 0x43000000#32))

/-- The sum of the squared distances from the mean. -/
def headVar (o : FVec Ideal S8x128 .f32) : FVec Ideal S8x1 .f32 :=
  shapeCast S8x1 (multiReduction (F := Ideal) .add [1] S8
    (mulf (subf o (broadcastTo S8x128 (headMean o) broadcasts_S8x1_S8x128)) (subf o (broadcastTo S8x128 (headMean o) broadcasts_S8x1_S8x128)))
    0x00000000#32 reduces_S8x128_S8 (.inl rfl) rfl) shapeCasts_S8_S8x1

/-- What is stored of the output of one head. -/
def newOut (h : Fin 8) (a : FVec Ideal S64x1024 .f32) (c : FVec Ideal S64x128 .f32) (gain : Vec Ideal S1x128 .f32) (gate : Vec Ideal S1x8x1024 .f32)
    (h1 : Shape.Slices S64x1024 ![8 * h.val, 128 * h.val] S8x128) (h2 : Shape.Slices S64x128 ![8 * h.val, 0] S8x128)
    (h3 : Shape.Slices S8x1024 ![0, 128 * h.val] S8x128) : FVec Ideal S1x8x128 .f32 :=
  k0_pay36 (F := Ideal) (headSum h a c h1 h2) (k0_pay31 gain) (extractStridedSlice S8x128 ![0, 128 * h.val] (k0_pay16 gate) h3)
    (headMean (headSum h a c h1 h2)) (headVar (headSum h a c h1 h2)) k0_pay35

variable (x0 : Vec Ideal S8x8x1024 .f32) (x1 : Vec Ideal S8x8x1024 .f32) (x2 : Vec Ideal S8x8x1024 .f32) (x3 : Vec Ideal S8x512 .f32)
  (x4 : Vec Ideal S8x512 .f32) (x5 : Vec Ideal S64x8 .f32) (x6 : Vec Ideal S64x128 .f32) (x7 : Vec Ideal S8x512 .f32)
  (x8 : Vec Ideal S512x128 .f32) (x9 : Vec Ideal S1x1024 .f32) (x10 : Vec Ideal S8x512x128 .f32)

/-- The new state of head `h` of sample `b`, from the blocks. -/
def statePiece (b h : Fin 8) : FVec Ideal S1x64x128 .f32 :=
  newState h (keys (View.ld x0 (rowR b)) (View.ld x3 wide) (View.ld x4 wide)) (View.ld x1 (rowR b)) (View.ld x10 (stateR b))
    (View.ld x7 wide) (View.ld x8 (decR h))
    (by revert h; decide) (by revert h; decide) (by revert h; decide)

/-- The output of head `h` of sample `b`, from the blocks. -/
def outPiece (b h : Fin 8) : FVec Ideal S1x8x128 .f32 :=
  newOut h (intra (queries (View.ld x0 (rowR b)) (View.ld x3 wide) (View.ld x4 wide)) (keys (View.ld x0 (rowR b)) (View.ld x3 wide) (View.ld x4 wide))
      (View.ld x1 (rowR b)) (View.ld x5 (Rect.unit (s := S64x8) ![0, 0] S64x8.size inb_S64x8_S64x8_0_0)))
    (cross (queries (View.ld x0 (rowR b)) (View.ld x3 wide) (View.ld x4 wide)) (View.ld x10 (stateR b))
      (View.ld x6 (Rect.unit (s := S64x128) ![0, 0] S64x128.size inb_S64x128_S64x128_0_0)))
    (View.ld x9 (gainR h)) (View.ld x2 (rowR b))
    (by revert h; decide) (by revert h; decide) (by revert h; decide)

/-- The `n`th store, counted from the last: its sample and its head. -/
abbrev sampleOf (n : Fin 64) : Fin 8 := ⟨7 - n.val / 8, by omega⟩
abbrev headOf (n : Fin 64) : Fin 8 := ⟨7 - n.val % 8, by omega⟩

/-- Where the `n`th store of the new state begins, and that it fits. -/
abbrev stateOff (n : Fin 64) : Fin 3 → Nat := ![(sampleOf n).val, 64 * (headOf n).val, 0]
theorem stateInb : ∀ (n : Fin 64) (a : Fin 3), stateOff n a + S1x64x128.size a ≤ S8x512x128.size a := by decide +kernel

/-- Where the `n`th store of the output begins, and that it fits. -/
abbrev outOff (n : Fin 64) : Fin 3 → Nat := ![(sampleOf n).val, 0, 128 * (headOf n).val]
theorem outInb : ∀ (n : Fin 64) (a : Fin 3), outOff n a + S1x8x128.size a ≤ S8x8x1024.size a := by decide +kernel

/-- The stores of the new state are one family. -/
theorem state_family : out0_12 x0 x1 x2 x3 x4 x5 x6 x7 x8 x9 x10
    = View.canon (List.ofFn fun n : Fin 64 => (⟨Rect.unit (s := S8x512x128) (stateOff n) S1x64x128.size (stateInb n),
        statePiece x0 x1 x3 x4 x7 x8 x10 (sampleOf n) (headOf n)⟩ : View.Piece (Elt Ideal) S8x512x128 .f32)) := rfl

/-- The stores of the output are one family. -/
theorem out_family : out0_11 x0 x1 x2 x3 x4 x5 x6 x7 x8 x9 x10
    = View.canon (List.ofFn fun n : Fin 64 => (⟨Rect.unit (s := S8x8x1024) (outOff n) S1x8x128.size (outInb n),
        outPiece x0 x1 x2 x3 x4 x5 x6 x9 x10 (sampleOf n) (headOf n)⟩ : View.Piece (Elt Ideal) S8x8x1024 .f32)) := rfl

/-- Lane `d` of head `h` among the keys' lanes, and lane `e` among the values'. -/
def keyLane (h : Fin 8) (d : Fin 64) : Fin 512 := ⟨64 * h.val + d.val, by omega⟩
def valLane (h : Fin 8) (e : Fin 128) : Fin 1024 := ⟨128 * h.val + e.val, by omega⟩

/-- One entry of the new state of a head: the old one faded, and the keys against the values. -/
theorem newState_at (h : Fin 8) (k : FVec Ideal S8x512 .f32) (v : Vec Ideal S1x8x1024 .f32) (st : Vec Ideal S1x512x128 .f32)
    (kd : Vec Ideal S8x512 .f32) (sd : Vec Ideal S64x128 .f32) (h1 h2 h3) (d : Fin 64) (e : Fin 128) :
    newState h k v st kd sd h1 h2 h3 (ix3 0 d e)
      = sd (ix2 d e) * st (ix3 0 (keyLane h d) e)
        + ∑ i : Fin 8, (k (ix2 i (keyLane h d)) * kd (ix2 i (keyLane h d))) * v (ix3 0 i (valLane h e)) := by
  pointwise [newState, k0_pay26, k0_pay29, k0_pay17]
  rfl

/-- The lanes' test of the keys: the first half of each head. -/
theorem low_lane (i : Fin 8) (l : Fin 512) : k0_pay14 (ix2 i l) = if l.val % 64 < 32 then 1#1 else 0#1 := by
  pointwise [k0_pay14]
  revert l
  decide +kernel

/-- The same test of the queries. -/
theorem low_lane_q (i : Fin 8) (l : Fin 512) :
    cmpi .slt (select (andi (xori (cmpi .slt k0_pay7 k0_pay9)
        (broadcastTo S8x512 (broadcast S8x512 (Scalar.cmpi .slt (Scalar.select (Scalar.cmpi .eq 64#32 0#32) 1#32 64#32) 0#32))
          broadcasts_S8x512_S8x512)) k0_pay8)
      (addi k0_pay7 (broadcast S8x512 (Scalar.select (Scalar.cmpi .eq 64#32 0#32) 1#32 64#32))) k0_pay7) (broadcast S8x512 32#32) (ix2 i l)
      = if l.val % 64 < 32 then 1#1 else 0#1 := by
  pointwise [k0_pay7, k0_pay8, k0_pay9]
  revert l
  decide +kernel

/-- A lane of a head, rotated with the lane half a head away. -/
def turned (x c s : Fin 512 → EReal) (h : Fin 8) (d : Fin 64) : EReal :=
  if hd : d.val < 32 then x (keyLane h d) * c (keyLane h d) + x (keyLane h ⟨d.val + 32, by omega⟩) * s (keyLane h d)
  else x (keyLane h d) * c (keyLane h d) + x (keyLane h ⟨d.val - 32, by omega⟩) * s (keyLane h d)

/-- What the two rotations and the choice between them come to. -/
theorem turned_of (x c s : Fin 512 → EReal) (h : Fin 8) (d : Fin 64) (t : BitVec 1)
    (ht : t = if (keyLane h d).val % 64 < 32 then 1#1 else 0#1) (u v : Fin 512)
    (hu : u.val = ((keyLane h d).val + 512 - 480) % 512) (hv : v.val = ((keyLane h d).val + 512 - 32) % 512) :
    x (keyLane h d) * c (keyLane h d) + Scalar.select t (x u) (x v) * s (keyLane h d) = turned x c s h d := by
  have hk : (keyLane h d).val = 64 * h.val + d.val := rfl
  unfold turned
  split
  · rename_i hd
    rw [ht, if_pos (by omega), show u = keyLane h ⟨d.val + 32, by omega⟩ from Fin.ext (by rw [hu, hk]; show _ = 64 * h.val + (d.val + 32); omega)]
    rfl
  · rename_i hd
    rw [ht, if_neg (by omega), show v = keyLane h ⟨d.val - 32, by omega⟩ from Fin.ext (by rw [hv, hk]; show _ = 64 * h.val + (d.val - 32); omega)]
    rfl

/-- The keys at a lane of a head. -/
theorem keys_at (x : Vec Ideal S1x8x1024 .f32) (c s : Vec Ideal S8x512 .f32) (i h : Fin 8) (d : Fin 64) :
    keys x c s (ix2 i (keyLane h d))
      = turned (fun l => x (ix3 0 i ⟨512 + l.val, by omega⟩)) (fun l => c (ix2 i l)) (fun l => s (ix2 i l)) h d := by
  refine Eq.trans ?_ (turned_of _ _ _ h d _ (low_lane i (keyLane h d)) ⟨((keyLane h d).val + 512 - 480) % 512, Nat.mod_lt _ (by decide)⟩
    ⟨((keyLane h d).val + 512 - 32) % 512, Nat.mod_lt _ (by decide)⟩ rfl rfl)
  pointwise [keys, k0_pay15, k0_pay11, k0_pay12, k0_pay13, k0_pay3]

/-- The queries at a lane of a head. -/
theorem queries_at (x : Vec Ideal S1x8x1024 .f32) (c s : Vec Ideal S8x512 .f32) (i h : Fin 8) (d : Fin 64) :
    queries x c s (ix2 i (keyLane h d))
      = turned (fun l => x (ix3 0 i ⟨l.val, by omega⟩)) (fun l => c (ix2 i l)) (fun l => s (ix2 i l)) h d * Ideal.ofBits .f32 0x3E000000#32 := by
  refine Eq.trans ?_ (congrArg (· * Ideal.ofBits .f32 0x3E000000#32) (turned_of _ _ _ h d _ (low_lane_q i (keyLane h d)) ⟨((keyLane h d).val + 512 - 480) % 512, Nat.mod_lt _ (by decide)⟩
    ⟨((keyLane h d).val + 512 - 32) % 512, Nat.mod_lt _ (by decide)⟩ rfl rfl))
  pointwise [queries, k0_pay10, k0_pay4, k0_pay5, k0_pay6, k0_pay3]

/-- The head of a lane, as the body counts it. -/
theorem lane_head (i : Fin 8) (l : Fin 512) : k0_pay2 (ix2 i l) = BitVec.ofNat 32 (l.val / 64) := by
  pointwise [k0_pay2]
  revert l
  decide +kernel

/-- Eight copies of the queries under each other, the `h`th keeping the lanes of head `h`. -/
abbrev stacked (q : FVec Ideal S8x512 .f32) : FVec Ideal S64x512 .bf16 :=
  k0_pay25 (F := Ideal) k0_pay2 q (k0_pay18 k0_pay2 q) (k0_pay19 k0_pay2 q) (k0_pay20 k0_pay2 q) (k0_pay21 k0_pay2 q)
    (k0_pay22 k0_pay2 q) (k0_pay23 k0_pay2 q) (k0_pay24 k0_pay2 q)

/-- Row `i` of the `h`th copy. -/
def headRow (h i : Fin 8) : Fin 64 := ⟨8 * h.val + i.val, by omega⟩

theorem same_head : ∀ (h : Fin 8) (l : Fin 512),
    IntOp.cmpi .eq (BitVec.ofNat 32 (l.val / 64)) (BitVec.ofNat 32 h.val) = if l.val / 64 = h.val then 1#1 else 0#1 := by
  decide +kernel

theorem stacked_at (q : FVec Ideal S8x512 .f32) (h i : Fin 8) (l : Fin 512) :
    stacked q (ix2 (headRow h i) l) = if l.val / 64 = h.val then q (ix2 i l) else 0 := by
  refine (concatenate_ofFn_apply (t := S64x512) (s₁ := S8x512) 0
    (fun n : Fin 8 => select (cmpi .eq k0_pay2 (broadcast S8x512 (BitVec.ofNat 32 n.val))) q (broadcast S8x512 (Scalar.ofBits (F := Ideal) .f32 0x00000000#32)))
    concatenates_S8x512_S8x512_S8x512_S8x512_S8x512_S8x512_S8x512_S8x512_S64x512_d0 rfl 8 rfl (ix2 (headRow h i) l) h
    (by show (8 * h.val + i.val) / 8 = h.val; omega) (ix2 i l) (by show i.val = (8 * h.val + i.val) % 8; omega) fun c hc => ?_).trans ?_
  · match c, hc with
    | 0, hc => exact absurd rfl hc
    | 1, _ => rfl
  · pointwise
    rw [lane_head, same_head]
    split <;> rfl

/-- A sum over the lanes of one head. -/
theorem head_lanes (h : Fin 8) (f : Fin 512 → EReal) :
    ∑ l : Fin 512, (if l.val / 64 = h.val then f l else 0) = ∑ d : Fin 64, f (keyLane h d) := by
  rw [← Finset.sum_filter]
  symm
  refine Finset.sum_nbij (keyLane h) (fun d _ => ?_) (fun a _ b _ e => ?_) (fun l hl => ?_) (fun _ _ => rfl)
  · simp only [Finset.mem_filter, Finset.mem_univ, true_and]
    show (64 * h.val + d.val) / 64 = h.val
    omega
  · have : 64 * h.val + a.val = 64 * h.val + b.val := congrArg Fin.val e
    exact Fin.ext (by omega)
  · have hl' : l.val / 64 = h.val := by simpa using hl
    exact ⟨⟨l.val % 64, Nat.mod_lt _ (by decide)⟩, Finset.mem_coe.mpr (Finset.mem_univ _), Fin.ext (by show 64 * h.val + l.val % 64 = l.val; omega)⟩

/-- A row of a copy against a column sees the lanes of its head. -/
theorem stacked_sum (q : FVec Ideal S8x512 .f32) (h i : Fin 8) (g : Fin 512 → EReal) :
    ∑ l : Fin 512, stacked q (ix2 (headRow h i) l) * g l = ∑ d : Fin 64, q (ix2 i (keyLane h d)) * g (keyLane h d) := by
  rw [← head_lanes h fun l => q (ix2 i l) * g l]
  refine Finset.sum_congr rfl fun l _ => ?_
  rw [stacked_at]
  split
  · rfl
  · exact zero_mul _

/-- The queries of a head against its state. -/
theorem cross_at (q : FVec Ideal S8x512 .f32) (st : Vec Ideal S1x512x128 .f32) (d : Vec Ideal S64x128 .f32) (h i : Fin 8) (e : Fin 128) :
    cross q st d (ix2 (headRow h i) e)
      = (∑ x : Fin 64, q (ix2 i (keyLane h x)) * st (ix3 0 (keyLane h x) e)) * d (ix2 (headRow h i) e) := by
  rw [← stacked_sum q h i fun l => st (ix3 0 l e)]
  pointwise [cross, k0_pay28, k0_pay26]

/-- The queries of a head against its keys, and against the values. -/
theorem intra_at (q k : FVec Ideal S8x512 .f32) (v : Vec Ideal S1x8x1024 .f32) (d : Vec Ideal S64x8 .f32) (h i : Fin 8) (e : Fin 1024) :
    intra q k v d (ix2 (headRow h i) e)
      = ∑ j : Fin 8, (∑ x : Fin 64, q (ix2 i (keyLane h x)) * k (ix2 j (keyLane h x))) * d (ix2 (headRow h i) j) * v (ix3 0 j e) := by
  refine Eq.trans ?_ (Finset.sum_congr rfl fun j _ => congrArg (fun z => z * d (ix2 (headRow h i) j) * v (ix3 0 j e))
    (stacked_sum q h i fun l => k (ix2 j l)))
  pointwise [intra, k0_pay27, k0_pay17]

/-- One lane of the normalised output of a head, gated. -/
def gated (o : Fin 128 → EReal) (e : Fin 128) (gain gate : EReal) : EReal :=
  (o e - Ideal.div (∑ x, o x) (Ideal.ofBits .f32 0x43000000#32))
      * Ideal.rsqrt (Ideal.div (∑ x, (o x - Ideal.div (∑ z, o z) (Ideal.ofBits .f32 0x43000000#32))
          * (o x - Ideal.div (∑ z, o z) (Ideal.ofBits .f32 0x43000000#32))) (Ideal.ofBits .f32 0x43000000#32)
        + Ideal.ofBits .f32 0x358637BD#32)
    * gain * (gate * Ideal.logistic gate)

/-- One entry of the output of a head. -/
theorem newOut_at (h : Fin 8) (a : FVec Ideal S64x1024 .f32) (c : FVec Ideal S64x128 .f32) (gain : Vec Ideal S1x128 .f32) (gate : Vec Ideal S1x8x1024 .f32)
    (h1 h2 h3) (i : Fin 8) (e : Fin 128) : newOut h a c gain gate h1 h2 h3 (ix3 0 i e)
      = gated (fun x => a (ix2 (headRow h i) (valLane h x)) + c (ix2 (headRow h i) x)) e (gain (ix2 0 e)) (gate (ix3 0 i (valLane h e))) := by
  pointwise [newOut, k0_pay36, k0_pay31, k0_pay16, k0_pay35, headVar, headMean, headSum, gated]
  rfl

/-- One entry of the new state of head `h` of sample `b`. -/
theorem statePiece_at (b h : Fin 8) (d : Fin 64) (e : Fin 128) : statePiece x0 x1 x3 x4 x7 x8 x10 b h (ix3 0 d e)
    = x8 (ix2 (keyLane h d) e) * x10 (ix3 b (keyLane h d) e)
      + ∑ i : Fin 8, turned (fun l => x0 (ix3 b i ⟨512 + l.val, by omega⟩)) (fun l => x3 (ix2 i l)) (fun l => x4 (ix2 i l)) h d
          * x7 (ix2 i (keyLane h d)) * x1 (ix3 b i (valLane h e)) := by
  unfold statePiece
  rw [newState_at]
  refine congr (congrArg HAdd.hAdd ?_) (Finset.sum_congr rfl fun i _ => ?_)
  · pointwise
    rfl
  · rw [keys_at]
    pointwise

/-- One entry of the output of head `h` of sample `b`. -/
theorem outPiece_at (b h i : Fin 8) (e : Fin 128) : outPiece x0 x1 x2 x3 x4 x5 x6 x9 x10 b h (ix3 0 i e)
    = gated (fun x => (∑ j : Fin 8, (∑ d : Fin 64,
          turned (fun l => x0 (ix3 b i ⟨l.val, by omega⟩)) (fun l => x3 (ix2 i l)) (fun l => x4 (ix2 i l)) h d * Ideal.ofBits .f32 0x3E000000#32
            * turned (fun l => x0 (ix3 b j ⟨512 + l.val, by omega⟩)) (fun l => x3 (ix2 j l)) (fun l => x4 (ix2 j l)) h d)
          * x5 (ix2 (headRow h i) j) * x1 (ix3 b j (valLane h x)))
        + (∑ d : Fin 64, turned (fun l => x0 (ix3 b i ⟨l.val, by omega⟩)) (fun l => x3 (ix2 i l)) (fun l => x4 (ix2 i l)) h d
            * Ideal.ofBits .f32 0x3E000000#32 * x10 (ix3 b (keyLane h d) x)) * x6 (ix2 (headRow h i) x)) e
      (x9 (ix2 0 (valLane h e))) (x2 (ix3 b i (valLane h e))) := by
  unfold outPiece
  rw [newOut_at]
  refine congr (congr (congrFun (congrArg gated (funext fun x => ?_)) e) ?_) ?_
  · rw [intra_at, cross_at]
    simp only [queries_at, keys_at]
    pointwise
  · pointwise
    rfl
  · pointwise

/-- The block of the new state at an index. -/
theorem state_at (b h : Fin 8) (d : Fin 64) (e : Fin 128) :
    out0_12 x0 x1 x2 x3 x4 x5 x6 x7 x8 x9 x10 (ix3 b (keyLane h d) e) = statePiece x0 x1 x3 x4 x7 x8 x10 b h (ix3 0 d e) := by
  rw [state_family]
  refine View.canon_ofFn_unit_eq_of_forall (S := S8x512x128) stateOff S1x64x128.size stateInb _ _ _ ⟨⟨8 * (7 - b.val) + (7 - h.val), by omega⟩, fun a => ?_⟩ fun n => ?_
  · match a with
    | ⟨0, _⟩ => show 7 - (8 * (7 - b.val) + (7 - h.val)) / 8 ≤ b.val ∧ b.val < 7 - (8 * (7 - b.val) + (7 - h.val)) / 8 + 1; omega
    | ⟨1, _⟩ => show 64 * (7 - (8 * (7 - b.val) + (7 - h.val)) % 8) ≤ 64 * h.val + d.val ∧ 64 * h.val + d.val < 64 * (7 - (8 * (7 - b.val) + (7 - h.val)) % 8) + 64; omega
    | ⟨2, _⟩ => show 0 ≤ e.val ∧ e.val < 0 + 128; omega
  · tile_intro x h
    have e0 : b.val = (sampleOf n).val + (x 0).val := h0
    have e1 : 64 * h.val + d.val = 64 * (headOf n).val + (x 1).val := h1
    have e2 : e.val = (x 2).val := h2
    rw [show sampleOf n = b from Fin.ext (by omega), show headOf n = h from Fin.ext (by omega)]
    refine congrArg _ (funext fun a => Fin.ext ?_)
    match a with
    | ⟨0, _⟩ => show (x 0).val = 0; omega
    | ⟨1, _⟩ => show (x 1).val = d.val; omega
    | ⟨2, _⟩ => show (x 2).val = e.val; omega

/-- The block of the output at an index. -/
theorem out_at (b h i : Fin 8) (e : Fin 128) :
    out0_11 x0 x1 x2 x3 x4 x5 x6 x7 x8 x9 x10 (ix3 b i (valLane h e)) = outPiece x0 x1 x2 x3 x4 x5 x6 x9 x10 b h (ix3 0 i e) := by
  rw [out_family]
  refine View.canon_ofFn_unit_eq_of_forall (S := S8x8x1024) outOff S1x8x128.size outInb _ _ _ ⟨⟨8 * (7 - b.val) + (7 - h.val), by omega⟩, fun a => ?_⟩ fun n => ?_
  · match a with
    | ⟨0, _⟩ => show 7 - (8 * (7 - b.val) + (7 - h.val)) / 8 ≤ b.val ∧ b.val < 7 - (8 * (7 - b.val) + (7 - h.val)) / 8 + 1; omega
    | ⟨1, _⟩ => show 0 ≤ i.val ∧ i.val < 0 + 8; omega
    | ⟨2, _⟩ => show 128 * (7 - (8 * (7 - b.val) + (7 - h.val)) % 8) ≤ 128 * h.val + e.val ∧ 128 * h.val + e.val < 128 * (7 - (8 * (7 - b.val) + (7 - h.val)) % 8) + 128; omega
  · tile_intro x h
    have e0 : b.val = (sampleOf n).val + (x 0).val := h0
    have e1 : i.val = (x 1).val := h1
    have e2 : 128 * h.val + e.val = 128 * (headOf n).val + (x 2).val := h2
    rw [show sampleOf n = b from Fin.ext (by omega), show headOf n = h from Fin.ext (by omega)]
    refine congrArg _ (funext fun a => Fin.ext ?_)
    match a with
    | ⟨0, _⟩ => show (x 0).val = 0; omega
    | ⟨1, _⟩ => show (x 1).val = i.val; omega
    | ⟨2, _⟩ => show (x 2).val = e.val; omega

end Cert.Kernel9Ideal.RefValue

end
-- ==== Proof.RetRef.lean ====
/- The sample retention's reference (`Reference9`), one entry at a time. -/
module

public import proofs.«01_k».proof.Proof.Gen.Reference9Ideal.Read
public import proofs.«01_k».proof.Proof.RetCell
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Reference9Ideal.RefValue
open Cert.Reference9Ideal Cert.Reference9Ideal.Read

variable (X : FVec Ideal S512x4096 .f32) (G : FVec Ideal S1024 .f32) (S : FVec Ideal S1x128x8x64x128 .f32)

/-- Row of token `i` of sample `s`. -/
def tok (s : Fin 128) (i : Fin 4) : Fin 512 := ⟨s.val * 4 + i.val, by omega⟩

open Cert.Kernel9Ideal.RefValue (keyLane valLane)

/-- A lane of a head, rotated with the lane half a head away. -/
def rot (x : Fin 512 → EReal) (C S : Fin 32 → EReal) (h : Fin 8) (d : Fin 64) : EReal :=
  if hd : d.val < 32 then x (keyLane h d) * C ⟨d.val, hd⟩ - x (keyLane h ⟨d.val + 32, by omega⟩) * S ⟨d.val, hd⟩
  else x (keyLane h ⟨d.val - 32, by omega⟩) * S ⟨d.val - 32, by omega⟩ + x (keyLane h d) * C ⟨d.val - 32, by omega⟩

/-- The four column blocks of the tokens. -/
theorem col_q (s : Fin 128) (i : Fin 4) (l : Fin 512) : val_main_v1 (F := Ideal) X (ix3 s i l) = X (ix2 (tok s i) ⟨l.val, by omega⟩) := by
  pointwise [val_main_v1, val_main_v0]
  rfl
theorem col_k (s : Fin 128) (i : Fin 4) (l : Fin 512) : val_main_v2 (F := Ideal) X (ix3 s i l) = X (ix2 (tok s i) ⟨512 + l.val, by omega⟩) := by
  pointwise [val_main_v2, val_main_v0]
  rfl
theorem col_v (s : Fin 128) (i : Fin 4) (l : Fin 1024) : val_main_v3 (F := Ideal) X (ix3 s i l) = X (ix2 (tok s i) ⟨1024 + l.val, by omega⟩) := by
  pointwise [val_main_v3, val_main_v0]
  rfl
theorem col_g (s : Fin 128) (i : Fin 4) (l : Fin 1024) : val_main_v4 (F := Ideal) X (ix3 s i l) = X (ix2 (tok s i) ⟨2048 + l.val, by omega⟩) := by
  pointwise [val_main_v4, val_main_v0]
  rfl

/-- A lane of a head by its number. -/
theorem lane_eq (h : Fin 8) (d : Fin 64) (n : Nat) (hn : n < 512) (e : n = 64 * h.val + d.val) : (⟨n, hn⟩ : Fin 512) = keyLane h d :=
  Fin.ext e

/-- The rotated keys. -/
theorem keys_ref (s : Fin 128) (i : Fin 4) (h : Fin 8) (d : Fin 64) :
    val_main_v78 (F := Ideal) X (ix4 s i h d) = rot (fun l => X (ix2 (tok s i) ⟨512 + l.val, by omega⟩))
      (fun d => val_main_v22 (F := Ideal) (ix2 i d)) (fun d => val_main_v24 (F := Ideal) (ix2 i d)) h d := by
  rw [show val_main_v22 (F := Ideal) = val_main_v58 from rfl, show val_main_v24 (F := Ideal) = val_main_v60 from rfl]
  simp only [← col_k]
  pointwise [val_main_v78, val_main_v70, val_main_v66, val_main_v62, val_main_v69, val_main_v63, val_main_v68, val_main_v45,
    val_main_v77, val_main_v76, val_main_v75, val_main_v74, val_main_v73, val_main_v72, val_main_v71, val_main_v67, val_main_v65, val_main_v64, val_main_v61, val_main_v59, rot]
  split
  · rename_i hd
    rw [lane_eq h d (h.val * 64 + d.val) _ (by omega), lane_eq h ⟨d.val + 32, by omega⟩ (h.val * 64 + (32 + d.val)) _ (by show _ = 64 * h.val + (d.val + 32); omega)]
  · rename_i hd
    rw [lane_eq h ⟨d.val - 32, by omega⟩ (h.val * 64 + (d.val - 32)) _ (by show _ = 64 * h.val + (d.val - 32); omega),
      lane_eq h d (h.val * 64 + (32 + (d.val - 32))) _ (by omega)]

/-- The rotated queries, before their scale. -/
theorem queries_ref (s : Fin 128) (i : Fin 4) (h : Fin 8) (d : Fin 64) :
    val_main_v42 (F := Ideal) X (ix4 s i h d) = rot (fun l => X (ix2 (tok s i) ⟨l.val, by omega⟩))
      (fun d => val_main_v22 (F := Ideal) (ix2 i d)) (fun d => val_main_v24 (F := Ideal) (ix2 i d)) h d := by
  simp only [← col_q]
  pointwise [val_main_v42, val_main_v34, val_main_v30, val_main_v26, val_main_v33, val_main_v27, val_main_v32, val_main_v9,
    val_main_v41, val_main_v40, val_main_v39, val_main_v38, val_main_v37, val_main_v36, val_main_v35, val_main_v31, val_main_v29, val_main_v28, val_main_v25, val_main_v23, rot]
  split
  · rename_i hd
    rw [lane_eq h d (h.val * 64 + d.val) _ (by omega), lane_eq h ⟨d.val + 32, by omega⟩ (h.val * 64 + (32 + d.val)) _ (by show _ = 64 * h.val + (d.val + 32); omega)]
  · rename_i hd
    rw [lane_eq h ⟨d.val - 32, by omega⟩ (h.val * 64 + (d.val - 32)) _ (by show _ = 64 * h.val + (d.val - 32); omega),
      lane_eq h d (h.val * 64 + (32 + (d.val - 32))) _ (by omega)]

/-- Lane `e` of head `h` of the values, as the reshaped array numbers it. -/
theorem vlane_eq (h : Fin 8) (e : Fin 128) (hn : h.val * 128 + e.val < 1024) : (⟨h.val * 128 + e.val, hn⟩ : Fin 1024) = valLane h e :=
  Fin.ext (by show h.val * 128 + e.val = 128 * h.val + e.val; omega)

/-- Lane `d` of head `h` of the rotated keys of token `i` of sample `s`, and of the queries. -/
def keyR (s : Fin 128) (i : Fin 4) (h : Fin 8) (d : Fin 64) : EReal :=
  rot (fun l => X (ix2 (tok s i) ⟨512 + l.val, by omega⟩))
    (fun d => val_main_v22 (F := Ideal) (ix2 i d)) (fun d => val_main_v24 (F := Ideal) (ix2 i d)) h d
def queryR (s : Fin 128) (i : Fin 4) (h : Fin 8) (d : Fin 64) : EReal :=
  rot (fun l => X (ix2 (tok s i) ⟨l.val, by omega⟩))
    (fun d => val_main_v22 (F := Ideal) (ix2 i d)) (fun d => val_main_v24 (F := Ideal) (ix2 i d)) h d * Ideal.ofBits .f32 0x3E000000#32

/-- One entry of the reference's new state. -/
theorem state_ref (s : Fin 128) (h : Fin 8) (d : Fin 64) (e : Fin 128) : val_main_v173 (F := Ideal) X S (ix5 0 s h d e)
    = val_main_v137 (F := Ideal) (ix1 h) * S (ix5 0 s h d e)
      + ∑ i : Fin 4, keyR X s i h d * val_main_v134 (F := Ideal) (ix2 i h) * X (ix2 (tok s i) ⟨1024 + (valLane h e).val, by omega⟩) := by
  simp only [keyR, ← keys_ref]
  pointwise [val_main_v173, val_main_v147, val_main_v146, val_main_v145, val_main_v144, val_main_v143, val_main_v142, val_main_v141, val_main_v140, val_main_v139, val_main_v138, val_main_v80, val_main_v79]
  simp only [vlane_eq, col_v]

/-- One lane of the reference's output of a head, before its normalisation. -/
def headR (s : Fin 128) (i : Fin 4) (h : Fin 8) (e : Fin 128) : EReal :=
  (∑ j : Fin 4, (∑ d : Fin 64, queryR X s i h d * keyR X s j h d) * val_main_v105 (F := Ideal) (ix3 h i j)
      * X (ix2 (tok s j) ⟨1024 + (valLane h e).val, by omega⟩))
    + (∑ d : Fin 64, queryR X s i h d * S (ix5 0 s h d e)) * val_main_v119 (F := Ideal) (ix2 i h)

theorem head_ref (s : Fin 128) (i : Fin 4) (h : Fin 8) (e : Fin 128) : val_main_v126 (F := Ideal) X S (ix4 s i h e) = headR X S s i h e := by
  unfold headR
  simp only [keyR, queryR, ← keys_ref, ← queries_ref]
  pointwise [val_main_v126, val_main_v125, val_main_v124, val_main_v123, val_main_v122, val_main_v121, val_main_v120, val_main_v111, val_main_v110, val_main_v109, val_main_v108, val_main_v107, val_main_v106, val_main_v80, val_main_v79, val_main_v44, val_main_v43, val_main_cst_1]
  simp only [vlane_eq, col_v]
  refine congr (congrArg HAdd.hAdd (Finset.sum_congr rfl fun j _ => mul_comm _ _)) (congrFun (congrArg HMul.hMul (Finset.sum_congr rfl fun d _ => mul_comm _ _)) _)

theorem normed_ref (s : Fin 128) (i : Fin 4) (h : Fin 8) (e : Fin 128) (gain gate : EReal) :
    val_main_v165 (F := Ideal) X S (ix4 s i h e) * gain * (gate * Ideal.logistic gate) = Cert.Kernel9Ideal.RefValue.gated (headR X S s i h) e gain gate := by
  rw [show headR X S s i h = fun e => val_main_v126 (F := Ideal) X S (ix4 s i h e) from funext fun e => (head_ref X S s i h e).symm]
  pointwise [val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_cst_12, val_main_cst_13, val_main_cst_14, val_main_cst_15, val_main_cst_16, Cert.Kernel9Ideal.RefValue.gated]

/-- One entry of the reference's output. -/
theorem out_ref (s : Fin 128) (i : Fin 4) (h : Fin 8) (e : Fin 128) : val_main_v171 (F := Ideal) X G S (ix3 s i (valLane h e))
    = Cert.Kernel9Ideal.RefValue.gated (headR X S s i h) e (G (ix1 (valLane h e))) (X (ix2 (tok s i) ⟨2048 + (valLane h e).val, by omega⟩)) := by
  rw [← normed_ref, ← col_g X s i (valLane h e)]
  have he : (valLane h e).val = 128 * h.val + e.val := rfl
  pointwise [val_main_v171, val_main_v170, val_main_v169, val_main_v168, val_main_v167, val_main_v166, val_main_call1_v5, val_main_call1_v4, val_main_call1_v3, val_main_call1_v2, val_main_call1_v1, val_main_call1_v0, val_main_call1_cst, val_main_call1_cst_0]
  rw [show (⟨(valLane h e).val / 128, by omega⟩ : Fin 8) = h from Fin.ext (by show _ / 128 = _; omega),
    show (⟨(valLane h e).val % 128, by omega⟩ : Fin 128) = e from Fin.ext (by show _ % 128 = _; omega)]
  rfl

end Cert.Reference9Ideal.RefValue

end
-- ==== Proof.RetTables.lean ====
/- The tables the sample retention call reads. -/
module

public import proofs.«01_k».proof.Proof.RetRef

@[expose] public section

set_option maxRecDepth 16384

noncomputable section

open Idealize.ShloMosaic Idealize.ShloMosaic.TcCoe Idealize.SL.Sem

namespace Cert.Kernel9Ideal.RefValue
open Cert.Kernel9Ideal Cert.Kernel9Ideal.Gen
open Cert.Reference9Ideal.Read Cert.Reference9Ideal.RefValue

variable (m : (ℓ : Loc nD τ sig) → Buf (Elt Ideal) ℓ)

/-- A token's row among the eight of its sample. -/
def padRow (i : Fin 4) : Fin 8 := ⟨i.val, by omega⟩

/-- A lane's angle in its half of a head. -/
def half (d : Fin 64) : Fin 32 := ⟨d.val % 32, Nat.mod_lt _ (by decide)⟩

theorem keyLane_div (h : Fin 8) (d : Fin 64) : (keyLane h d).val / 64 = h.val := by
  change (64 * h.val + d.val) / 64 = _
  omega

theorem keyLane_mod (h : Fin 8) (d : Fin 64) : (keyLane h d).val % 64 = d.val := by
  change (64 * h.val + d.val) % 64 = _
  omega

theorem headRow_div (h i : Fin 8) : (headRow h i).val / 8 = h.val := by
  change (8 * h.val + i.val) / 8 = _
  omega

theorem headRow_mod (h i : Fin 8) : (headRow h i).val % 8 = i.val := by
  change (8 * h.val + i.val) % 8 = _
  omega

theorem below : ∀ j : Fin 8, IntOp.cmpi .slt (BitVec.ofNat 32 j.val) 4#32 = if j.val < 4 then 1#1 else 0#1 := by
  decide

theorem zero_cell : id (constant (F := Ideal) S_ .f32 0#32) ix0 = 0 := by
  simp only [id]
  pointwise

theorem padRow_val (i : Fin 4) : (padRow i).val = i.val := rfl

theorem cos_at (c : Dev nD) (i : Fin 4) (h : Fin 8) (d : Fin 64) :
    V m c main_v22 (ix2 (padRow i) (keyLane h d)) = val_main_v22 (F := Ideal) (ix2 i (half d)) := by
  refine (congrFun (show V m c main_v22 = ?T from ?e) _).trans ?_
  case e =>
    simp only [V, V0, hostOps0, hostOps0_1, hostOps0_2, hostOps0_3, hostOps0_4, hostOps0_5, hostOps0_6, hostOps0_7, hostOps0_8,
      List.flatten_cons, List.flatten_nil, List.cons_append, List.nil_append, List.append_nil]
    after_results
    try rfl
  try simp -implicitDefEqProofs only [StableHlo.TRef.toBuf, StableHlo.TRef.ofBuf, cast_cast, cast_eq]
  pointwise [val_main_v24, val_main_v22, val_main_v21, val_main_v20, val_main_v19, val_main_v18, val_main_v17, val_main_v16,
    val_main_v15, val_main_v14, val_main_v13, val_main_v12, val_main_v11, val_main_v10, val_main_v8, val_main_v7, val_main_v6, val_main_c,
    val_main_cst, val_main_cst_0]
  simp only [keyLane_div, keyLane_mod, headRow_div, headRow_mod, padRow_val, half]
  by_cases hd : d.val < 32
  · rw [Nat.mod_eq_of_lt hd]
    simp only [hd, dite_true, if_true]
  · rw [show d.val % 32 = d.val - 32 by omega]
    simp only [hd, dite_false, if_false]

theorem sin_at (c : Dev nD) (i : Fin 4) (h : Fin 8) (d : Fin 64) :
    V m c main_v27 (ix2 (padRow i) (keyLane h d)) = if d.val < 32 then -val_main_v24 (F := Ideal) (ix2 i (half d)) else val_main_v24 (F := Ideal) (ix2 i (half d)) := by
  refine (congrFun (show V m c main_v27 = ?T from ?e) _).trans ?_
  case e =>
    simp only [V, V0, hostOps0, hostOps0_1, hostOps0_2, hostOps0_3, hostOps0_4, hostOps0_5, hostOps0_6, hostOps0_7, hostOps0_8,
      List.flatten_cons, List.flatten_nil, List.cons_append, List.nil_append, List.append_nil]
    after_results
    try rfl
  try simp -implicitDefEqProofs only [StableHlo.TRef.toBuf, StableHlo.TRef.ofBuf, cast_cast, cast_eq]
  pointwise [val_main_v24, val_main_v22, val_main_v21, val_main_v20, val_main_v19, val_main_v18, val_main_v17, val_main_v16,
    val_main_v15, val_main_v14, val_main_v13, val_main_v12, val_main_v11, val_main_v10, val_main_v8, val_main_v7, val_main_v6, val_main_c,
    val_main_cst, val_main_cst_0]
  simp only [keyLane_div, keyLane_mod, headRow_div, headRow_mod, padRow_val, half]
  by_cases hd : d.val < 32
  · rw [Nat.mod_eq_of_lt hd]
    simp only [hd, dite_true, if_true]
  · rw [show d.val % 32 = d.val - 32 by omega]
    simp only [hd, dite_false, if_false]

theorem decay_at (c : Dev nD) (h : Fin 8) (i : Fin 4) (j : Fin 8) :
    V m c main_v86 (ix2 (headRow h (padRow i)) j) = if hj : j.val < 4 then val_main_v105 (F := Ideal) (ix3 h i ⟨j.val, hj⟩) else 0 := by
  refine (congrFun (show V m c main_v86 = ?T from ?e) _).trans ?_
  case e =>
    simp only [V, V0, hostOps0, hostOps0_1, hostOps0_2, hostOps0_3, hostOps0_4, hostOps0_5, hostOps0_6, hostOps0_7, hostOps0_8,
      List.flatten_cons, List.flatten_nil, List.cons_append, List.nil_append, List.append_nil]
    after_results
    try rfl
  try simp -implicitDefEqProofs only [StableHlo.TRef.toBuf, StableHlo.TRef.ofBuf, cast_cast, cast_eq]
  pointwise [val_main_v105, val_main_v104, val_main_v103, val_main_v102, val_main_v101, val_main_v100, val_main_v99, val_main_v98, val_main_v97, val_main_v96, val_main_v95, val_main_v94, val_main_v93, val_main_v92, val_main_v91, val_main_v90, val_main_v89, val_main_call0_v1, val_main_call0_v2, val_main_call0_v0,
    val_main_v88, val_main_v87, val_main_v86, val_main_v85, val_main_v84, val_main_v83, val_main_v82, val_main_v81,
    val_main_cst_4, val_main_cst_5, val_main_cst_6, val_main_cst_7, val_main_cst_8, val_main_cst_9, val_main_cst_10, val_main_cst_11]
  simp only [keyLane_div, keyLane_mod, headRow_div, headRow_mod, padRow_val]
  rw [below]
  by_cases hj : j.val < 4
  · simp only [hj, if_true, dite_true]
    rfl
  · simp only [hj, if_false, dite_false]
    exact zero_cell

theorem qdec_at (c : Dev nD) (h : Fin 8) (i : Fin 4) (x : Fin 128) :
    V m c main_v87 (ix2 (headRow h (padRow i)) x) = val_main_v119 (F := Ideal) (ix2 i h) := by
  refine (congrFun (show V m c main_v87 = ?T from ?e) _).trans ?_
  case e =>
    simp only [V, V0, hostOps0, hostOps0_1, hostOps0_2, hostOps0_3, hostOps0_4, hostOps0_5, hostOps0_6, hostOps0_7, hostOps0_8,
      List.flatten_cons, List.flatten_nil, List.cons_append, List.nil_append, List.append_nil]
    after_results
    try rfl
  try simp -implicitDefEqProofs only [StableHlo.TRef.toBuf, StableHlo.TRef.ofBuf, cast_cast, cast_eq]
  pointwise [val_main_v119, val_main_v118, val_main_v117, val_main_v116, val_main_v115, val_main_v114, val_main_v113, val_main_v112, val_main_v89,
    val_main_v88, val_main_v87, val_main_v86, val_main_v85, val_main_v84, val_main_v83, val_main_v82, val_main_v81,
    val_main_cst_4, val_main_cst_5, val_main_cst_6, val_main_cst_7, val_main_cst_8, val_main_cst_9, val_main_cst_10, val_main_cst_11]
  simp only [keyLane_div, keyLane_mod, headRow_div, headRow_mod, padRow_val]

theorem kdec_at (c : Dev nD) (j : Fin 8) (h : Fin 8) (d : Fin 64) :
    V m c main_v89 (ix2 j (keyLane h d)) = if hj : j.val < 4 then val_main_v134 (F := Ideal) (ix2 ⟨j.val, hj⟩ h) else 0 := by
  refine (congrFun (show V m c main_v89 = ?T from ?e) _).trans ?_
  case e =>
    simp only [V, V0, hostOps0, hostOps0_1, hostOps0_2, hostOps0_3, hostOps0_4, hostOps0_5, hostOps0_6, hostOps0_7, hostOps0_8,
      List.flatten_cons, List.flatten_nil, List.cons_append, List.nil_append, List.append_nil]
    after_results
    try rfl
  try simp -implicitDefEqProofs only [StableHlo.TRef.toBuf, StableHlo.TRef.ofBuf, cast_cast, cast_eq]
  pointwise [val_main_v134, val_main_v133, val_main_v132, val_main_v131, val_main_v130, val_main_v129, val_main_v128, val_main_v127, val_main_v89,
    val_main_v88, val_main_v87, val_main_v86, val_main_v85, val_main_v84, val_main_v83, val_main_v82, val_main_v81,
    val_main_cst_4, val_main_cst_5, val_main_cst_6, val_main_cst_7, val_main_cst_8, val_main_cst_9, val_main_cst_10, val_main_cst_11]
  simp only [keyLane_div, keyLane_mod, headRow_div, headRow_mod, padRow_val]
  rw [below]
  by_cases hj : j.val < 4
  · simp only [hj, if_true, dite_true]
    rfl
  · simp only [hj, if_false, dite_false]
    exact zero_cell

theorem sdec_at (c : Dev nD) (h : Fin 8) (d : Fin 64) (e : Fin 128) :
    V m c main_v90 (ix2 (keyLane h d) e) = val_main_v137 (F := Ideal) (ix1 h) := by
  refine (congrFun (show V m c main_v90 = ?T from ?e) _).trans ?_
  case e =>
    simp only [V, V0, hostOps0, hostOps0_1, hostOps0_2, hostOps0_3, hostOps0_4, hostOps0_5, hostOps0_6, hostOps0_7, hostOps0_8,
      List.flatten_cons, List.flatten_nil, List.cons_append, List.nil_append, List.append_nil]
    after_results
    try rfl
  try simp -implicitDefEqProofs only [StableHlo.TRef.toBuf, StableHlo.TRef.ofBuf, cast_cast, cast_eq]
  pointwise [val_main_v137, val_main_v136, val_main_v135,
    val_main_v88, val_main_v87, val_main_v86, val_main_v85, val_main_v84, val_main_v83, val_main_v82, val_main_v81,
    val_main_cst_4, val_main_cst_5, val_main_cst_6, val_main_cst_7, val_main_cst_8, val_main_cst_9, val_main_cst_10, val_main_cst_11]
  simp only [keyLane_div, keyLane_mod, headRow_div, headRow_mod, padRow_val]

theorem gain_at (c : Dev nD) (l : Fin 1024) : V m c main_v92 (ix2 0 l) = m ((c : Thread nD τ).loc main_arg1) (ix1 l) := by
  refine (congrFun (show V m c main_v92 = ?T from ?e) _).trans ?_
  case e =>
    simp only [V, V0, hostOps0, hostOps0_1, hostOps0_2, hostOps0_3, hostOps0_4, hostOps0_5, hostOps0_6, hostOps0_7, hostOps0_8,
      List.flatten_cons, List.flatten_nil, List.cons_append, List.nil_append, List.append_nil]
    after_results
    try rfl
  try simp -implicitDefEqProofs only [StableHlo.TRef.toBuf, StableHlo.TRef.ofBuf, cast_cast, cast_eq]
  pointwise

theorem oldState_at (c : Dev nD) (s : Fin 128) (h : Fin 8) (d : Fin 64) (e : Fin 128) :
    V m c main_v91 (ix3 s (keyLane h d) e) = m ((c : Thread nD τ).loc main_arg2) (ix5 0 s h d e) := by
  refine (congrFun (show V m c main_v91 = ?T from ?e) _).trans ?_
  case e =>
    simp only [V, V0, hostOps0, hostOps0_1, hostOps0_2, hostOps0_3, hostOps0_4, hostOps0_5, hostOps0_6, hostOps0_7, hostOps0_8,
      List.flatten_cons, List.flatten_nil, List.cons_append, List.nil_append, List.append_nil]
    after_results
    try rfl
  try simp -implicitDefEqProofs only [StableHlo.TRef.toBuf, StableHlo.TRef.ofBuf, cast_cast, cast_eq]
  pointwise
  refine congrArg (m (c, Proc.tc.devRef main_arg2)) ?_
  congr 1
  · exact Fin.ext (keyLane_div h d)
  · exact Fin.ext (keyLane_mod h d)

theorem rows_at (c : Dev nD) (s : Fin 128) (i : Fin 4) (l : Fin 4096) :
    V m c main_v1 (ix3 s (padRow i) l) = m ((c : Thread nD τ).loc main_arg0) (ix2 (tok s i) l) := by
  refine (congrFun (show V m c main_v1 = ?T from ?e) _).trans ?_
  case e =>
    simp only [V, V0, hostOps0, hostOps0_1, hostOps0_2, hostOps0_3, hostOps0_4, hostOps0_5, hostOps0_6, hostOps0_7, hostOps0_8,
      List.flatten_cons, List.flatten_nil, List.cons_append, List.nil_append, List.append_nil]
    after_results
    try rfl
  try simp -implicitDefEqProofs only [StableHlo.TRef.toBuf, StableHlo.TRef.ofBuf, cast_cast, cast_eq]
  pointwise
  exact dif_pos i.isLt

end Cert.Kernel9Ideal.RefValue

end
-- ==== Proof.RetValue.lean ====
/- The two results of the sample retention call, over the arrays the call reads: the reference's terms. -/
module

public import proofs.«01_k».proof.Proof.RetTables

@[expose] public section

set_option maxRecDepth 16384

noncomputable section

open Idealize.ShloMosaic Idealize.ShloMosaic.TcCoe Idealize.SL.Sem

namespace Cert.Kernel9Ideal.RefValue
open Cert.Kernel9Ideal Cert.Kernel9Ideal.Gen
open Cert.Reference9Ideal.Read Cert.Reference9Ideal.RefValue

/-- A turned head is the rotation of its two halves: one table holds the cosines twice, the other the sines with
    the first half negated. -/
theorem turned_rot (x x' c s : Fin 512 → EReal) (C S : Fin 32 → EReal) (h : Fin 8) (d : Fin 64) (hx : ∀ l, x l = x' l)
    (hc : ∀ d, c (keyLane h d) = C (half d))
    (hs : ∀ d, s (keyLane h d) = if d.val < 32 then -S (half d) else S (half d)) : turned x c s h d = rot x' C S h d := by
  unfold turned rot
  simp only [hx, hc, hs]
  by_cases hd : d.val < 32
  · rw [dif_pos hd, dif_pos hd, if_pos hd, show half d = ⟨d.val, hd⟩ from Fin.ext (Nat.mod_eq_of_lt hd), mul_neg, ← sub_eq_add_neg]
  · rw [dif_neg hd, dif_neg hd, if_neg hd,
      show half d = ⟨d.val - 32, by omega⟩ from Fin.ext (show d.val % 32 = d.val - 32 by omega), add_comm]

/-- A sum over the eight rows of a sample whose padded terms vanish is the sum over its tokens. -/
theorem sum_padded (f : Fin 8 → EReal) (g : Fin 4 → EReal) (hf : ∀ i, f (padRow i) = g i) (hz : ∀ j : Fin 8, ¬ j.val < 4 → f j = 0) :
    ∑ j, f j = ∑ i, g i := by
  rw [Fin.sum_univ_eight, Fin.sum_univ_four, hz 4 (by decide), hz 5 (by decide), hz 6 (by decide), hz 7 (by decide),
    add_zero, add_zero, add_zero, add_zero, ← hf 0, ← hf 1, ← hf 2, ← hf 3]
  rfl

variable (m : (ℓ : Loc nD τ sig) → Buf (Elt Ideal) ℓ)

/-! ### The arrays the call reads, entry by entry -/

def rowsV (c : Dev nD) (s : Fin 128) (i : Fin 8) (l : Fin 4096) : EReal := V m c main_v1 (ix3 s i l)
def cosV (c : Dev nD) (i : Fin 8) (l : Fin 512) : EReal := V m c main_v22 (ix2 i l)
def sinV (c : Dev nD) (i : Fin 8) (l : Fin 512) : EReal := V m c main_v27 (ix2 i l)
def decayV (c : Dev nD) (r : Fin 64) (j : Fin 8) : EReal := V m c main_v86 (ix2 r j)
def qdecV (c : Dev nD) (r : Fin 64) (x : Fin 128) : EReal := V m c main_v87 (ix2 r x)
def kdecV (c : Dev nD) (j : Fin 8) (l : Fin 512) : EReal := V m c main_v89 (ix2 j l)
def sdecV (c : Dev nD) (l : Fin 512) (e : Fin 128) : EReal := V m c main_v90 (ix2 l e)
def gainV (c : Dev nD) (l : Fin 1024) : EReal := V m c main_v92 (ix2 0 l)
def oldV (c : Dev nD) (s : Fin 128) (l : Fin 512) (e : Fin 128) : EReal := V m c main_v91 (ix3 s l e)

/-- A row's turned query, and a row's turned key. -/
def queryV (c : Dev nD) (s : Fin 128) (i h : Fin 8) (d : Fin 64) : EReal :=
  turned (fun l => rowsV m c s i ⟨l.val, by omega⟩) (cosV m c i) (sinV m c i) h d * Ideal.ofBits .f32 0x3E000000#32
def keyV (c : Dev nD) (s : Fin 128) (i h : Fin 8) (d : Fin 64) : EReal :=
  turned (fun l => rowsV m c s i ⟨512 + l.val, by omega⟩) (cosV m c i) (sinV m c i) h d

/-- A head's new state over the arrays. -/
def stateV (c : Dev nD) (s : Fin 128) (h : Fin 8) (d : Fin 64) (e : Fin 128) : EReal :=
  sdecV m c (keyLane h d) e * oldV m c s (keyLane h d) e
    + ∑ i : Fin 8, keyV m c s i h d * kdecV m c i (keyLane h d) * rowsV m c s i ⟨1024 + (valLane h e).val, by omega⟩

/-- A head's retention, and the output made of it, over the arrays. -/
def headV (c : Dev nD) (s : Fin 128) (i h : Fin 8) (x : Fin 128) : EReal :=
  (∑ j : Fin 8, (∑ d : Fin 64, queryV m c s i h d * keyV m c s j h d) * decayV m c (headRow h i) j
      * rowsV m c s j ⟨1024 + (valLane h x).val, by omega⟩)
    + (∑ d : Fin 64, queryV m c s i h d * oldV m c s (keyLane h d) x) * qdecV m c (headRow h i) x
def outV (c : Dev nD) (s : Fin 128) (i h : Fin 8) (e : Fin 128) : EReal :=
  gated (headV m c s i h) e (gainV m c (valLane h e)) (rowsV m c s i ⟨2048 + (valLane h e).val, by omega⟩)

/-! ### On the rows of a token they are the reference's -/

theorem query_eq (c : Dev nD) (s : Fin 128) (i : Fin 4) (h : Fin 8) (d : Fin 64) :
    queryV m c s (padRow i) h d = queryR (m ((c : Thread nD τ).loc main_arg0)) s i h d :=
  congrArg (· * Ideal.ofBits .f32 0x3E000000#32) (turned_rot _ _ _ _ _ _ h d (fun l => rows_at m c s i _) (cos_at m c i h) (sin_at m c i h))

theorem key_eq (c : Dev nD) (s : Fin 128) (i : Fin 4) (h : Fin 8) (d : Fin 64) :
    keyV m c s (padRow i) h d = keyR (m ((c : Thread nD τ).loc main_arg0)) s i h d :=
  turned_rot _ _ _ _ _ _ h d (fun l => rows_at m c s i _) (cos_at m c i h) (sin_at m c i h)

theorem state_value (c : Dev nD) (s : Fin 128) (h : Fin 8) (d : Fin 64) (e : Fin 128) : stateV m c s h d e
    = val_main_v173 (F := Ideal) (m ((c : Thread nD τ).loc main_arg0)) (m ((c : Thread nD τ).loc main_arg2)) (ix5 0 s h d e) := by
  rw [state_ref]
  refine congrArg₂ (· + ·) (congrArg₂ (· * ·) (sdec_at m c h d e) (oldState_at m c s h d e)) (sum_padded _ _ (fun i => ?_) fun j hj => ?_)
  · exact congrArg₂ (· * ·) (congrArg₂ (· * ·) (key_eq m c s i h d) ((kdec_at m c _ h d).trans (dif_pos i.isLt))) (rows_at m c s i _)
  · rw [show kdecV m c j (keyLane h d) = 0 from (kdec_at m c j h d).trans (dif_neg hj), mul_zero, zero_mul]

theorem head_value (c : Dev nD) (s : Fin 128) (i : Fin 4) (h : Fin 8) (x : Fin 128) : headV m c s (padRow i) h x
    = headR (m ((c : Thread nD τ).loc main_arg0)) (m ((c : Thread nD τ).loc main_arg2)) s i h x := by
  refine congrArg₂ (· + ·) (sum_padded _ _ (fun j => ?_) fun j hj => ?_) (congrArg₂ (· * ·) (Finset.sum_congr rfl fun d _ => ?_) (qdec_at m c h i x))
  · exact congrArg₂ (· * ·) (congrArg₂ (· * ·) (Finset.sum_congr rfl fun d _ => congrArg₂ (· * ·) (query_eq m c s i h d) (key_eq m c s j h d))
      ((decay_at m c h i _).trans (dif_pos j.isLt))) (rows_at m c s j _)
  · rw [show decayV m c (headRow h (padRow i)) j = 0 from (decay_at m c h i j).trans (dif_neg hj), mul_zero, zero_mul]
  · exact congrArg₂ (· * ·) (query_eq m c s i h d) (oldState_at m c s h d x)

theorem out_value (c : Dev nD) (s : Fin 128) (i : Fin 4) (h : Fin 8) (e : Fin 128) : outV m c s (padRow i) h e
    = val_main_v171 (F := Ideal) (m ((c : Thread nD τ).loc main_arg0)) (m ((c : Thread nD τ).loc main_arg1))
        (m ((c : Thread nD τ).loc main_arg2)) (ix3 s i (valLane h e)) := by
  rw [out_ref]
  exact congr (congr (congrArg (fun o => gated o e) (funext fun x => head_value m c s i h x)) (gain_at m c _)) (rows_at m c s i _)

/-! ### A block's entry over the arrays -/

variable (x0 : Vec Ideal S8x8x1024 .f32) (x1 : Vec Ideal S8x8x1024 .f32) (x2 : Vec Ideal S8x8x1024 .f32) (x3 : Vec Ideal S8x512 .f32)
  (x4 : Vec Ideal S8x512 .f32) (x5 : Vec Ideal S64x8 .f32) (x6 : Vec Ideal S64x128 .f32) (x7 : Vec Ideal S8x512 .f32)
  (x8 : Vec Ideal S512x128 .f32) (x9 : Vec Ideal S1x1024 .f32) (x10 : Vec Ideal S8x512x128 .f32)

theorem state_block (c : Dev nD) (s : Fin 128) (b h : Fin 8) (d : Fin 64) (e : Fin 128)
    (h0 : ∀ i l, x0 (ix3 b i l) = rowsV m c s i ⟨l.val, by omega⟩) (h1 : ∀ i l, x1 (ix3 b i l) = rowsV m c s i ⟨1024 + l.val, by omega⟩)
    (h3 : ∀ i l, x3 (ix2 i l) = cosV m c i l) (h4 : ∀ i l, x4 (ix2 i l) = sinV m c i l)
    (h7 : ∀ i l, x7 (ix2 i l) = kdecV m c i l) (h8 : ∀ l e, x8 (ix2 l e) = sdecV m c l e)
    (h10 : ∀ l e, x10 (ix3 b l e) = oldV m c s l e) :
    out0_12 x0 x1 x2 x3 x4 x5 x6 x7 x8 x9 x10 (ix3 b (keyLane h d) e) = stateV m c s h d e := by
  rw [state_at, statePiece_at]
  simp only [h0, h1, h3, h4, h7, h8, h10]
  rfl

theorem out_block (c : Dev nD) (s : Fin 128) (b i h : Fin 8) (e : Fin 128)
    (h0 : ∀ i l, x0 (ix3 b i l) = rowsV m c s i ⟨l.val, by omega⟩) (h1 : ∀ i l, x1 (ix3 b i l) = rowsV m c s i ⟨1024 + l.val, by omega⟩)
    (h2 : ∀ i l, x2 (ix3 b i l) = rowsV m c s i ⟨2048 + l.val, by omega⟩)
    (h3 : ∀ i l, x3 (ix2 i l) = cosV m c i l) (h4 : ∀ i l, x4 (ix2 i l) = sinV m c i l)
    (h5 : ∀ r j, x5 (ix2 r j) = decayV m c r j) (h6 : ∀ r x, x6 (ix2 r x) = qdecV m c r x)
    (h9 : ∀ l, x9 (ix2 0 l) = gainV m c l) (h10 : ∀ l e, x10 (ix3 b l e) = oldV m c s l e) :
    out0_11 x0 x1 x2 x3 x4 x5 x6 x7 x8 x9 x10 (ix3 b i (valLane h e)) = outV m c s i h e := by
  rw [out_at, outPiece_at]
  simp only [h0, h1, h2, h3, h4, h5, h6, h9, h10]
  rfl

end Cert.Kernel9Ideal.RefValue

end
-- ==== Proof.RetFinal.lean ====
/- The sample retention call's two arrays after the run, and the program's two results. -/
module

public import proofs.«01_k».proof.Proof.RetValue

@[expose] public section

set_option maxRecDepth 16384

noncomputable section

open Idealize.ShloMosaic Idealize.ShloMosaic.TcCoe Idealize.SL.Sem

namespace Cert.Kernel9Ideal.RefValue
open Cert.Kernel9Ideal Cert.Kernel9Ideal.Gen
open Cert.Reference9Ideal.Read Cert.Reference9Ideal.RefValue

variable (m : (ℓ : Loc nD τ sig) → Buf (Elt Ideal) ℓ)

theorem idx : ∀ t : Fin cfg0.N, win0_0.index t = ![t.val, 0, 0] ∧ win0_1.index t = ![t.val, 0, 1] ∧ win0_2.index t = ![t.val, 0, 2]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0]
    ∧ win0_10.index t = ![t.val, 0, 0] ∧ win0_11.index t = ![t.val, 0, 0] ∧ win0_12.index t = ![t.val, 0, 0] :=
  (by decide +kernel : ∀ t : Fin grid0.N, _)

/-- The sample at place `b` of the eight of a grid point. -/
def sampleAt (t : Fin cfg0.N) (b : Fin 8) : Fin 128 := ⟨8 * t.val + b.val, by have : t.val < 16 := t.isLt; omega⟩

theorem blk0 (c : Dev nD) (t : Fin cfg0.N) (b i : Fin 8) (l : Fin 1024) :
    iblk m c 0 t (ix3 b i l) = rowsV m c (sampleAt t b) i ⟨l.val, by omega⟩ := by
  unfold rowsV sampleAt
  blk_simp [iblk, idx t]
  refine congrArg (V m c main_v1) ?_
  blk_ext [idx t]

theorem blk1 (c : Dev nD) (t : Fin cfg0.N) (b i : Fin 8) (l : Fin 1024) :
    iblk m c 1 t (ix3 b i l) = rowsV m c (sampleAt t b) i ⟨1024 + l.val, by omega⟩ := by
  unfold rowsV sampleAt
  blk_simp [iblk, idx t]
  refine congrArg (V m c main_v1) ?_
  blk_ext [idx t]

theorem blk2 (c : Dev nD) (t : Fin cfg0.N) (b i : Fin 8) (l : Fin 1024) :
    iblk m c 2 t (ix3 b i l) = rowsV m c (sampleAt t b) i ⟨2048 + l.val, by omega⟩ := by
  unfold rowsV sampleAt
  blk_simp [iblk, idx t]
  refine congrArg (V m c main_v1) ?_
  blk_ext [idx t]

theorem blk3 (c : Dev nD) (t : Fin cfg0.N) (i : Fin 8) (l : Fin 512) : iblk m c 3 t (ix2 i l) = cosV m c i l := by
  unfold cosV
  blk_simp [iblk, idx t]
  refine congrArg (V m c main_v22) ?_
  blk_ext [idx t]

theorem blk4 (c : Dev nD) (t : Fin cfg0.N) (i : Fin 8) (l : Fin 512) : iblk m c 4 t (ix2 i l) = sinV m c i l := by
  unfold sinV
  blk_simp [iblk, idx t]
  refine congrArg (V m c main_v27) ?_
  blk_ext [idx t]

theorem blk5 (c : Dev nD) (t : Fin cfg0.N) (r : Fin 64) (j : Fin 8) : iblk m c 5 t (ix2 r j) = decayV m c r j := by
  unfold decayV
  blk_simp [iblk, idx t]
  refine congrArg (V m c main_v86) ?_
  blk_ext [idx t]

theorem blk6 (c : Dev nD) (t : Fin cfg0.N) (r : Fin 64) (x : Fin 128) : iblk m c 6 t (ix2 r x) = qdecV m c r x := by
  unfold qdecV
  blk_simp [iblk, idx t]
  refine congrArg (V m c main_v87) ?_
  blk_ext [idx t]

theorem blk7 (c : Dev nD) (t : Fin cfg0.N) (i : Fin 8) (l : Fin 512) : iblk m c 7 t (ix2 i l) = kdecV m c i l := by
  unfold kdecV
  blk_simp [iblk, idx t]
  refine congrArg (V m c main_v89) ?_
  blk_ext [idx t]

theorem blk8 (c : Dev nD) (t : Fin cfg0.N) (l : Fin 512) (e : Fin 128) : iblk m c 8 t (ix2 l e) = sdecV m c l e := by
  unfold sdecV
  blk_simp [iblk, idx t]
  refine congrArg (V m c main_v90) ?_
  blk_ext [idx t]

theorem blk9 (c : Dev nD) (t : Fin cfg0.N) (l : Fin 1024) : iblk m c 9 t (ix2 0 l) = gainV m c l := by
  unfold gainV
  blk_simp [iblk, idx t]
  refine congrArg (V m c main_v92) ?_
  blk_ext [idx t]

theorem blk10 (c : Dev nD) (t : Fin cfg0.N) (b : Fin 8) (l : Fin 512) (e : Fin 128) :
    iblk m c 10 t (ix3 b l e) = oldV m c (sampleAt t b) l e := by
  unfold oldV sampleAt
  blk_simp [iblk, idx t]
  refine congrArg (V m c main_v91) ?_
  blk_ext [idx t]

/-- The head and the key lane of a row of the state; the head and the value lane of a lane of the output. -/
def keyHead (l : Fin 512) : Fin 8 := ⟨l.val / 64, by omega⟩
def keyPlace (l : Fin 512) : Fin 64 := ⟨l.val % 64, by omega⟩
def valHead (l : Fin 1024) : Fin 8 := ⟨l.val / 128, by omega⟩
def valPlace (l : Fin 1024) : Fin 128 := ⟨l.val % 128, by omega⟩

theorem keyLane_split (l : Fin 512) : keyLane (keyHead l) (keyPlace l) = l :=
  Fin.ext (show 64 * (l.val / 64) + l.val % 64 = l.val by omega)

theorem valLane_split (l : Fin 1024) : valLane (valHead l) (valPlace l) = l :=
  Fin.ext (show 128 * (l.val / 128) + l.val % 128 = l.val by omega)

/-- The state array and the output array after the run, over the arrays the call reads. -/
def stateArr (c : Dev nD) : FVec Ideal S128x512x128 .f32 := fun y => stateV m c (y 0) (keyHead (y 1)) (keyPlace (y 1)) (y 2)
def outArr (c : Dev nD) : FVec Ideal S128x8x1024 .f32 := fun y => outV m c (y 0) (y 1) (valHead (y 2)) (valPlace (y 2))

theorem state_cell (c : Dev nD) (t : Fin cfg0.N) (b : Fin 8) (l : Fin 512) (e : Fin 128) :
    out0_12 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix3 b l e) = stateArr m c (ix3 (sampleAt t b) l e) := by
  have h := state_block m (iblk m c 0 t) (iblk m c 1 t) (iblk m c 2 t) (iblk m c 3 t) (iblk m c 4 t) (iblk m c 5 t) (iblk m c 6 t)
    (iblk m c 7 t) (iblk m c 8 t) (iblk m c 9 t) (iblk m c 10 t) c (sampleAt t b) b (keyHead l) (keyPlace l) e
    (blk0 m c t b) (blk1 m c t b) (blk3 m c t) (blk4 m c t) (blk7 m c t) (blk8 m c t) (blk10 m c t b)
  rw [keyLane_split] at h
  exact h

theorem out_cell (c : Dev nD) (t : Fin cfg0.N) (b i : Fin 8) (l : Fin 1024) :
    out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix3 b i l) = outArr m c (ix3 (sampleAt t b) i l) := by
  have h := out_block m (iblk m c 0 t) (iblk m c 1 t) (iblk m c 2 t) (iblk m c 3 t) (iblk m c 4 t) (iblk m c 5 t) (iblk m c 6 t)
    (iblk m c 7 t) (iblk m c 8 t) (iblk m c 9 t) (iblk m c 10 t) c (sampleAt t b) b i (valHead l) (valPlace l)
    (blk0 m c t b) (blk1 m c t b) (blk2 m c t b) (blk3 m c t) (blk4 m c t) (blk5 m c t) (blk6 m c t) (blk9 m c t) (blk10 m c t b)
  rw [valLane_split] at h
  exact h

theorem final12 (c : Dev nD) : (dats m 0 c).arrAt 12 (cfgs 0).N = stateArr m c := by
  refine (dats m 0 c).arrAt_eq_of_covers 12 _ (by decide +kernel) fun t _ y => ?_
  blk_simp
  rw [after0_12]
  refine (congrArg _ (?_ : y = ix3 (y 0) (y 1) (y 2))).trans ((state_cell m c t (y 0) (y 1) (y 2)).trans (congrArg (stateArr m c) ?_))
  · funext a
    match a with
    | ⟨0, _⟩ => rfl
    | ⟨1, _⟩ => rfl
    | ⟨2, _⟩ => rfl
  · unfold sampleAt
    blk_ext [idx t]

theorem final11 (c : Dev nD) : (dats m 0 c).arrAt 11 (cfgs 0).N = outArr m c := by
  refine (dats m 0 c).arrAt_eq_of_covers 11 _ (by decide +kernel) fun t _ y => ?_
  blk_simp
  rw [after0_11]
  refine (congrArg _ (?_ : y = ix3 (y 0) (y 1) (y 2))).trans ((out_cell m c t (y 0) (y 1) (y 2)).trans (congrArg (outArr m c) ?_))
  · funext a
    match a with
    | ⟨0, _⟩ => rfl
    | ⟨1, _⟩ => rfl
    | ⟨2, _⟩ => rfl
  · unfold sampleAt
    blk_ext [idx t]

theorem arr_state (c : Dev nD) : Pipeline.withArrays (τ := τ) spec0 c (V0 m c) (fun w => (dats m 0 c).arrAt w (cfgs 0).N)
      (Proc.devRef .tc main_v93_1) = stateArr m c :=
  ((dats m 0 c).withArrays_arrAt sharedIn0 (V0 m c) (A_eq m c) 12).trans (final12 m c)

theorem arr_out (c : Dev nD) : Pipeline.withArrays (τ := τ) spec0 c (V0 m c) (fun w => (dats m 0 c).arrAt w (cfgs 0).N)
      (Proc.devRef .tc main_v93_0) = outArr m c :=
  ((dats m 0 c).withArrays_arrAt sharedIn0 (V0 m c) (A_eq m c) 11).trans (final11 m c)

/-- The gated output of the tokens: the rows of the padded tokens dropped. -/
theorem tail_out (c : Dev nD) : Pipeline.afterTail₀ cfgs (dats m) 0 (V0 m) [hostOps1] c main_v96
    = val_main_v172 (F := Ideal) (m ((c : Thread nD τ).loc main_arg0)) (m ((c : Thread nD τ).loc main_arg1))
        (m ((c : Thread nD τ).loc main_arg2)) := by
  unfold Pipeline.afterTail₀
  simp only [List.flatten_cons, List.flatten_nil, List.append_nil]
  after_results
  refine (congrArg (fun Z : FVec Ideal S128x8x1024 .f32 => shapeCast S512x1024
    (extractStridedSlice S128x4x1024 ![0, 0, 0] Z slices_S128x8x1024_S128x4x1024_0_0_0) shapeCasts_S128x4x1024_S512x1024)
    (arr_out m c)).trans ?_
  funext i
  have h0 : (i 0).val < 512 := (i 0).isLt
  have e := (out_value m c ⟨(i 0).val / 4, by omega⟩ ⟨(i 0).val % 4, by omega⟩ (valHead (i 1)) (valPlace (i 1))).trans
    (congrArg (fun l => val_main_v171 (F := Ideal) (m ((c : Thread nD τ).loc main_arg0)) (m ((c : Thread nD τ).loc main_arg1))
      (m ((c : Thread nD τ).loc main_arg2)) (ix3 ⟨(i 0).val / 4, by omega⟩ ⟨(i 0).val % 4, by omega⟩ l)) (valLane_split (i 1)))
  unfold val_main_v172
  generalize val_main_v171 (F := Ideal) _ _ _ = R at e ⊢
  pointwise
  exact e

/-- The new states. -/
theorem tail_state (c : Dev nD) : Pipeline.afterTail₀ cfgs (dats m) 0 (V0 m) [hostOps1] c main_v97
    = val_main_v173 (F := Ideal) (m ((c : Thread nD τ).loc main_arg0)) (m ((c : Thread nD τ).loc main_arg2)) := by
  unfold Pipeline.afterTail₀
  simp only [List.flatten_cons, List.flatten_nil, List.append_nil]
  after_results
  rw [show Pipeline.withArrays (τ := τ) (cfgs 0).spec c (V0 m c) (fun w => (dats m 0 c).arrAt w (cfgs 0).N)
    (Proc.devRef .tc main_v93_1) = stateArr m c from arr_state m c]
  funext i
  pointwise
  have h2 : (i 2).val < 8 := (i 2).isLt
  have h3 : (i 3).val < 64 := (i 3).isLt
  have e1 : keyHead ⟨(i 2).val * 64 + (i 3).val, by omega⟩ = i 2 := Fin.ext (show ((i 2).val * 64 + (i 3).val) / 64 = (i 2).val by omega)
  have e2 : keyPlace ⟨(i 2).val * 64 + (i 3).val, by omega⟩ = i 3 := Fin.ext (show ((i 2).val * 64 + (i 3).val) % 64 = (i 3).val by omega)
  refine (congrArg₂ (fun h d => stateV m c (i 1) h d (i 4)) e1 e2).trans ((state_value m c (i 1) (i 2) (i 3) (i 4)).trans
    (congrArg (val_main_v173 (F := Ideal) (m ((c : Thread nD τ).loc main_arg0)) (m ((c : Thread nD τ).loc main_arg2))) ?_))
  funext a
  match a with
  | ⟨0, _⟩ => exact Fin.ext (show 0 = (i 0).val by have h0 : (i 0).val < 1 := (i 0).isLt; omega)
  | ⟨1, _⟩ => rfl
  | ⟨2, _⟩ => rfl
  | ⟨3, _⟩ => rfl
  | ⟨4, _⟩ => rfl

end Cert.Kernel9Ideal.RefValue

end
-- ==== Proof.Sample9.lean ====
/- The value claim of the sample retention (`Kernel9`): the run of the kernel beside the run of its reference. -/
module

public import proofs.«01_k».proof.Defs
public import proofs.«01_k».proof.Proof.RetFinal
public import proofs.«01_k».proof.Proof.Gen.Reference9Ideal.Run
public import Idealize.ShloMosaic.Adequacy
public import Idealize.ShloMosaic.Init

@[expose] public section

set_option maxRecDepth 16384

noncomputable section

namespace Cert.Retention

open Idealize.ShloMosaic Idealize.ShloMosaic.TcCoe Idealize.SL.Sem

theorem algebraic9 : Cert.algebraic_Kernel9Ideal_Reference9Ideal := by
  pair_intro
  · run_from Cert.Kernel9Ideal.Gen.run_main m g
    · exact Cert.Kernel9Ideal.Gen.W_main_arg0 m _ c
    · exact Cert.Kernel9Ideal.Gen.W_main_arg1 m _ c
    · exact Cert.Kernel9Ideal.Gen.W_main_arg2 m _ c
  · run_from Cert.Reference9Ideal.Value.run m' g'
    · obtain ⟨e0, e1, e2⟩ := hagree c
      rw [← e1]
      refine (Cert.Reference9Ideal.Read.val_main_v172_eq (F := Ideal) (StableHlo.launchContents m' c)).trans
        (Eq.trans ?_ (Cert.Kernel9Ideal.RefValue.tail_out m c).symm)
      exact congr (congr (congrArg (Cert.Reference9Ideal.Read.val_main_v172 (F := Ideal)) e0) e1) e2
    · obtain ⟨e0, _, e2⟩ := hagree c
      refine (Cert.Reference9Ideal.Read.val_main_v173_eq (F := Ideal) (StableHlo.launchContents m' c)).trans
        (Eq.trans ?_ (Cert.Kernel9Ideal.RefValue.tail_state m c).symm)
      exact congr (congrArg (Cert.Reference9Ideal.Read.val_main_v173 (F := Ideal)) e0) e2

end Cert.Retention

end
-- ==== Proof.SmpGate.lean ====
/- The sample mixing of the first layer (`Kernel10`): what the call leaves in its second array, the gating values of the
   samples. Every grid point stores them once for each of its eight samples. -/
module

public import proofs.«01_k».proof.Proof.Gen.Kernel10Ideal.Frame
public import proofs.«01_k».proof.Proof.Gen.Reference10Ideal.Read
public import proofs.«01_k».proof.Proof.EvenRef
public import proofs.«01_k».proof.Proof.EvenGate
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel10Ideal.RefValue
open Cert.Kernel10Ideal Cert.Kernel10Ideal.Gen Cert.Even

variable (m : (ℓ : Loc nD τ sig) → Buf (Elt Ideal) ℓ)

theorem idx : ∀ t : Fin cfg0.N, win0_1.index t = ![t.val, 0, 0] ∧ win0_2.index t = ![t.val, 0, 1] ∧ win0_3.index t = ![t.val, 0, 2]
    ∧ win0_4.index t = ![t.val, 0, 6] ∧ win0_5.index t = ![t.val, 0, 0] ∧ win0_6.index t = ![t.val, 0, 0]
    ∧ win0_7.index t = ![0, 0, 0] ∧ win0_8.index t = ![0, 0] ∧ win0_9.index t = ![t.val, 0, 0] ∧ win0_10.index t = ![t.val, 0, 0] :=
  (by decide +kernel : ∀ t : Fin grid0.N, _)

/-- The sample at place `b` of the eight of a grid point. -/
def sampleAt (t : Fin cfg0.N) (b : Fin 8) : Fin 128 := ⟨8 * t.val + b.val, by have : t.val < 16 := t.isLt; omega⟩

/-- The padded rows of a sample, as the call reads them. -/
def rowsV (c : Dev nD) (s : Fin 128) (i : Fin 8) (l : Fin 3584) : EReal := V m c main_v1 (ix3 s i l)

/-- The gating values of a block, as entries of the padded rows. -/
theorem av_at (c : Dev nD) (t : Fin cfg0.N) (b i : Fin 8) (l : Fin 1024) :
    X0_2 m c t (ix3 b i l) = rowsV m c (sampleAt t b) i ⟨1024 + l.val, by omega⟩ := by
  unfold X0_2 Pipeline.Window.fill rowsV sampleAt
  rw [dif_pos (moved0_2 t _)]
  blk_simp [iblk, idx t]
  refine congrArg (V m c main_v1) ?_
  blk_ext [idx t]

/-- The rows of sample `b` of a block. -/
abbrev rowR (b : Fin 8) : Rect S8x8x1024 := Rect.unit (s := S8x8x1024) ![b.val, 0, 0] S1x8x1024.size fun a => match a with
  | ⟨0, _⟩ => by show b.val + 1 ≤ 8; omega
  | ⟨1, _⟩ => by show 0 + 8 ≤ 8; omega
  | ⟨2, _⟩ => by show 0 + 1024 ≤ 1024; omega

/-- Where the `n`th store of the gating values begins, counted from the last, and that it fits. -/
abbrev sampleOf (n : Fin 8) : Fin 8 := ⟨7 - n.val, by omega⟩
abbrev avOff (n : Fin 8) : Fin 3 → Nat := ![(sampleOf n).val, 0, 0]
theorem avInb : ∀ (n : Fin 8) (a : Fin 3), avOff n a + S1x8x1024.size a ≤ S8x8x1024.size a := by decide +kernel

/-- The stores of the gating values are one family. -/
theorem av_family (c : Dev nD) (t : Fin cfg0.N) : (outsAt0 (F := Ideal) m c t).2
    = View.canon (List.ofFn fun n : Fin 8 => (⟨Rect.unit (s := S8x8x1024) (avOff n) S1x8x1024.size (avInb n),
        k0_pay15 (F := Ideal) (View.ld (X0_2 m c t) (rowR (sampleOf n)))⟩ : View.Piece (Elt Ideal) S8x8x1024 .f32)) := by
  unfold outsAt0
  frame_out
  rfl

/-- The block of the gating values at an index. -/
theorem av_block (c : Dev nD) (t : Fin cfg0.N) (b i : Fin 8) (l : Fin 1024) : (outsAt0 (F := Ideal) m c t).2 (ix3 b i l)
    = gelu (rowsV m c (sampleAt t b) i ⟨1024 + l.val, by omega⟩) := by
  rw [av_family, ← av_at]
  generalize X0_2 m c t = x2
  refine (View.canon_ofFn_unit_eq_of_forall (S := S8x8x1024) avOff S1x8x1024.size avInb _ _
    (k0_pay15 (F := Ideal) (View.ld x2 (rowR b)) (ix3 0 i l)) ⟨⟨7 - b.val, by omega⟩, fun a => ?_⟩ fun n => ?_).trans ?_
  · match a with
    | ⟨0, _⟩ => show 7 - (7 - b.val) ≤ b.val ∧ b.val < 7 - (7 - b.val) + 1; omega
    | ⟨1, _⟩ => show 0 ≤ i.val ∧ i.val < 0 + 8; omega
    | ⟨2, _⟩ => show 0 ≤ l.val ∧ l.val < 0 + 1024; omega
  · tile_intro x h
    have e0 : b.val = (sampleOf n).val + (x 0).val := h0
    have e1 : i.val = (x 1).val := h1
    have e2 : l.val = (x 2).val := h2
    rw [show sampleOf n = b from Fin.ext (by have : (x 0).val < 1 := (x 0).isLt; omega)]
    refine congrArg _ (funext fun a => Fin.ext ?_)
    match a with
    | ⟨0, _⟩ => show (x 0).val = 0; have : (x 0).val < 1 := (x 0).isLt; omega
    | ⟨1, _⟩ => show (x 1).val = i.val; omega
    | ⟨2, _⟩ => show (x 2).val = l.val; omega
  · pointwise [k0_pay15, k0_pay14]
    exact Cert.KernelIdeal.RefValue.gelu_one _

/-- The array of the gating values after the run. -/
def avArr (c : Dev nD) : FVec Ideal S128x8x1024 .f32 := fun y => gelu (rowsV m c (y 0) (y 1) ⟨1024 + (y 2).val, by have : (y 2).val < 1024 := (y 2).isLt; omega⟩)

theorem final10 (c : Dev nD) : (dats m 0 c).arrAt 10 (cfgs 0).N = avArr m c := by
  refine (dats m 0 c).arrAt_eq_of_covers 10 _ (by decide +kernel) fun t _ y => ?_
  blk_simp
  rw [after0_10]
  refine (congrArg _ (?_ : y = ix3 (y 0) (y 1) (y 2))).trans ((av_block m c t (y 0) (y 1) (y 2)).trans
    ((show _ = avArr m c (ix3 (sampleAt t (y 0)) (y 1) (y 2)) from rfl).trans (congrArg (avArr m c) ?_)))
  · funext a
    match a with
    | ⟨0, _⟩ => rfl
    | ⟨1, _⟩ => rfl
    | ⟨2, _⟩ => rfl
  · unfold sampleAt
    blk_ext [idx t]

theorem arr_av (c : Dev nD) : Pipeline.withArrays (τ := τ) spec0 c (V0 m c) (fun w => (dats m 0 c).arrAt w (cfgs 0).N)
      (Proc.devRef .tc main_v17_1) = avArr m c :=
  ((dats m 0 c).withArrays_arrAt sharedIn0 (V0 m c) (A_eq m c) 10).trans (final10 m c)

/-- A token's row among the eight of its sample, and among all rows. -/
def padRow (i : Fin 4) : Fin 8 := ⟨i.val, by omega⟩
def tok (s : Fin 128) (i : Fin 4) : Fin 512 := ⟨s.val * 4 + i.val, by omega⟩

theorem rows_at (c : Dev nD) (s : Fin 128) (i : Fin 4) (l : Fin 3584) :
    rowsV m c s (padRow i) l = m ((c : Thread nD τ).loc main_arg0) (ix2 (tok s i) l) := by
  refine (congrFun (show V m c main_v1 = ?T from ?e) _).trans ?_
  case e =>
    simp only [V, V0, hostOps0, hostOps0_1, hostOps0_2, hostOps0_3, hostOps0_4, hostOps0_5, hostOps0_6, hostOps0_7, hostOps0_8,
      List.flatten_cons, List.flatten_nil, List.cons_append, List.nil_append, List.append_nil]
    after_results
    try rfl
  try simp -implicitDefEqProofs only [StableHlo.TRef.toBuf, StableHlo.TRef.ofBuf, cast_cast, cast_eq]
  pointwise
  exact dif_pos i.isLt

end Cert.Kernel10Ideal.RefValue

namespace Cert.Reference10Ideal.RefValue
open Cert.Reference10Ideal Cert.Reference10Ideal.Read Cert.Even

/-- The reference's gating value of a token. -/
theorem av_ref (Z : FVec Ideal S512x3584 .f32) (i : S1x128x4x8x128.Idx) : val_main_v14 (F := Ideal) Z i
    = gelu (Z (ix2 ⟨(i 1).val * 4 + (i 2).val, by have h1 : (i 1).val < 128 := (i 1).isLt; have h2 : (i 2).val < 4 := (i 2).isLt; omega⟩
        ⟨1024 + ((i 3).val * 128 + (i 4).val), by have h3 : (i 3).val < 8 := (i 3).isLt; have h4 : (i 4).val < 128 := (i 4).isLt; omega⟩)) := by
  pointwise [val_main_v14, val_main_v13, val_main_v12, val_main_v11, val_main_v10, val_main_v9, val_main_v8, val_main_v7, val_main_v6, val_main_v2, val_main_v0, val_main_cst, val_main_cst_0]
  exact Cert.ReferenceIdeal.RefValue.gelu_erfc _

end Cert.Reference10Ideal.RefValue

namespace Cert.Kernel10Ideal.RefValue
open Cert.Kernel10Ideal Cert.Kernel10Ideal.Gen Cert.Even
open Cert.Reference10Ideal.Read

variable (m : (ℓ : Loc nD τ sig) → Buf (Elt Ideal) ℓ)

/-- The gating values of the tokens: the rows of the padding dropped. -/
theorem tail_av (c : Dev nD) : Pipeline.afterTail₀ cfgs (dats m) 0 (V0 m) [hostOps1] c main_v19
    = val_main_v14 (F := Ideal) (m ((c : Thread nD τ).loc main_arg0)) := by
  unfold Pipeline.afterTail₀
  simp only [List.flatten_cons, List.flatten_nil, List.append_nil]
  after_results
  rw [show Pipeline.withArrays (τ := τ) (cfgs 0).spec c (V0 m c) (fun w => (dats m 0 c).arrAt w (cfgs 0).N)
    (Proc.devRef .tc main_v17_1) = avArr m c from arr_av m c]
  funext i
  refine Eq.trans ?_ (Cert.Reference10Ideal.RefValue.av_ref (m ((c : Thread nD τ).loc main_arg0)) i).symm
  pointwise
  have h2 : (i 2).val < 4 := (i 2).isLt
  exact congrArg gelu (rows_at m c (i 1) (i 2) _)

end Cert.Kernel10Ideal.RefValue

end
-- ==== Proof.Sample10.lean ====
/- The value claim of the sample mixing (`Kernel10`): the run of the kernel beside the run of its reference. -/
module

public import proofs.«01_k».proof.Defs
public import proofs.«01_k».proof.Proof.SmpGate
public import proofs.«01_k».proof.Proof.Gen.Reference10Ideal.Run
public import Idealize.ShloMosaic.Adequacy
public import Idealize.ShloMosaic.Init

@[expose] public section

set_option maxRecDepth 16384

noncomputable section

namespace Cert.EvenSample

open Idealize.ShloMosaic Idealize.ShloMosaic.TcCoe Idealize.SL.Sem

theorem algebraic10 : Cert.algebraic_Kernel10Ideal_Reference10Ideal := by
  pair_intro
  · run_from Cert.Kernel10Ideal.Gen.run_main m g
    · exact Cert.Kernel10Ideal.Gen.W_main_arg0 m _ c
    · exact Cert.Kernel10Ideal.Gen.W_main_arg1 m _ c
    · exact Cert.Kernel10Ideal.Gen.W_main_arg2 m _ c
    · exact Cert.Kernel10Ideal.Gen.W_main_arg3 m _ c
    · exact Cert.Kernel10Ideal.Gen.W_main_arg4 m _ c
  · run_from Cert.Reference10Ideal.Value.run m' g'
    rw [Cert.Kernel10Ideal.RefValue.tail_av m c]
    rfl

end Cert.EvenSample

end
-- ==== Proof.lean ====
/- The certificate: the launch witnesses, the frames, and the value claims, each proved in its own module — the even layer's
   attention and gating (`Proof.Even`), the dense calls (`Proof.Dense`), the sample retention (`Proof.Sample9`), the gating
   values of the samples (`Proof.Sample10`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Reference8Ideal.Run
public import proofs.«01_k».proof.Proof.Gen.Reference8Ideal.Read
public import proofs.«01_k».proof.Proof.Even
public import proofs.«01_k».proof.Proof.Dense
public import proofs.«01_k».proof.Proof.Sample9
public import proofs.«01_k».proof.Proof.Sample10
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem frame_reference1 : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference2 : Cert.quiescent_Reference2Ideal := fun m g _ =>
  (θ_run Cert.Reference2Ideal.defs _ _).mono (fun r h => ⟨fun c => (h c).2.2.2, sem_eq_zero_of_no_sems (by decide) r.2⟩)
    (Cert.Reference2Ideal.Value.run (F := Ideal) m g)

theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem frame_reference6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem frame_reference8 : Cert.quiescent_Reference8Ideal := fun m g _ =>
  (θ_run Cert.Reference8Ideal.defs _ _).mono (fun r h => ⟨fun c => (h c).2.2.2, sem_eq_zero_of_no_sems (by decide) r.2⟩)
    (Cert.Reference8Ideal.Value.run (F := Ideal) m g)

theorem frame_reference9 : Cert.quiescent_Reference9Ideal := fun m g _ =>
  (θ_run Cert.Reference9Ideal.defs _ _).mono (fun r h => ⟨fun c => (h c).2.2, sem_eq_zero_of_no_sems (by decide) r.2⟩)
    (Cert.Reference9Ideal.Value.run (F := Ideal) m g)

theorem frame_reference10 : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

theorem preserves1 : Cert.preserves_Kernel_KernelIdeal :=
  IdealRules.named_const.statement Cert.KernelIdeal.κ "mask" .f32 0xF149F2CA#32 ⊥ rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite.Gen.facts,
    fun m g _ => Cert.Kernel.Gen.frame m g, fun m g _ => Cert.KernelIdeal.Gen.frame m g,
    fun m g _ => Cert.KernelIdeal.Gen.frame m g, frame_reference1, fun m g _ => frame_reference1 m g trivial,
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    fun m g _ => Cert.Kernel7.Gen.frame m g, fun m g _ => Cert.Kernel7Ideal.Gen.frame m g, frame_reference7,
    fun m g _ => Cert.Kernel8.Gen.frame m g, fun m g _ => Cert.Kernel8Ideal.Gen.frame m g, frame_reference8,
    fun m g _ => Cert.Kernel9.Gen.frame m g, fun m g _ => Cert.Kernel9Ideal.Gen.frame m g, frame_reference9,
    fun m g _ => Cert.Kernel10.Gen.frame m g, fun m g _ => Cert.Kernel10Ideal.Gen.frame m g, frame_reference10,
    preserves1, Cert.Even.algebraic1,
    trivial, Cert.Dense.algebraic2,
    trivial, Cert.Dense.algebraic3,
    trivial, Cert.Dense.algebraic4,
    trivial, Cert.Dense.algebraic5,
    trivial, Cert.Dense.algebraic6,
    trivial, Cert.Dense.algebraic7,
    trivial, Cert.Dense.algebraic8,
    trivial, Cert.Retention.algebraic9,
    trivial, Cert.EvenSample.algebraic10⟩

end Cert.Proof

end
